-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_one_nearest_centroid [hPre_one_nearest_centroid : Cert.Pre_one_nearest_centroid.Facts] (m : (ℓ : Loc Cert.KernelIdeal.nD Cert.KernelIdeal.τ Cert.KernelIdeal.sig) → Buf (Elt Ideal) ℓ) : Prop :=
  ∀ c : Dev Cert.KernelIdeal.nD,
    (Cert.Pre_one_nearest_centroid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_one_nearest_centroid [hPre_one_nearest_centroid : Cert.Pre_one_nearest_centroid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_one_nearest_centroid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_one_nearest_centroid [hKernelIdeal : Cert.KernelIdeal.Facts] [hPre_one_nearest_centroid : Cert.Pre_one_nearest_centroid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_one_nearest_centroid m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_one_nearest_centroid [hReferenceIdeal : Cert.ReferenceIdeal.Facts] [hPre_one_nearest_centroid : Cert.Pre_one_nearest_centroid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_one_nearest_centroid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal_pre_one_nearest_centroid [hKernelIdeal : Cert.KernelIdeal.Facts] [hReferenceIdeal : Cert.ReferenceIdeal.Facts] [hPre_one_nearest_centroid : Cert.Pre_one_nearest_centroid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_one_nearest_centroid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_one_nearest_centroid : Cert.Pre_one_nearest_centroid.Facts),
    quiescent_Kernel (hKernel := hKernel)
    ∧ quiescent_KernelIdeal (hKernelIdeal := hKernelIdeal)
    ∧ quiescent_KernelIdeal_pre_one_nearest_centroid (hKernelIdeal := hKernelIdeal) (hPre_one_nearest_centroid := hPre_one_nearest_centroid)
    ∧ quiescent_ReferenceIdeal (hReferenceIdeal := hReferenceIdeal)
    ∧ quiescent_ReferenceIdeal_pre_one_nearest_centroid (hReferenceIdeal := hReferenceIdeal) (hPre_one_nearest_centroid := hPre_one_nearest_centroid)
    ∧ preserves_Kernel_KernelIdeal
    ∧ algebraic_KernelIdeal_ReferenceIdeal_pre_one_nearest_centroid (hKernelIdeal := hKernelIdeal) (hReferenceIdeal := hReferenceIdeal) (hPre_one_nearest_centroid := hPre_one_nearest_centroid)
-- ==== Pre_one_nearest_centroid.lean ====
abbrev S1x100000x128 : Shape := ⟨3, ![1, 100000, 128]⟩
abbrev S32x128 : Shape := ⟨2, ![32, 128]⟩
abbrev S32 : Shape := ⟨1, ![32]⟩
abbrev S64x32 : Shape := ⟨2, ![64, 32]⟩
abbrev S64 : Shape := ⟨1, ![64]⟩
abbrev S16x64 : Shape := ⟨2, ![16, 64]⟩
abbrev S16 : Shape := ⟨1, ![16]⟩
abbrev S32x16 : Shape := ⟨2, ![32, 16]⟩
abbrev S128x32 : Shape := ⟨2, ![128, 32]⟩
abbrev S128 : Shape := ⟨1, ![128]⟩
abbrev S_ : Shape := ⟨0, ![]⟩
abbrev S1x100000x32 : Shape := ⟨3, ![1, 100000, 32]⟩
abbrev S1x1x32 : Shape := ⟨3, ![1, 1, 32]⟩
abbrev S32x64 : Shape := ⟨2, ![32, 64]⟩
abbrev S1x100000x64 : Shape := ⟨3, ![1, 100000, 64]⟩
abbrev S1x1x64 : Shape := ⟨3, ![1, 1, 64]⟩
abbrev S64x16 : Shape := ⟨2, ![64, 16]⟩
abbrev S1x100000x16 : Shape := ⟨3, ![1, 100000, 16]⟩
abbrev S1x1x16 : Shape := ⟨3, ![1, 1, 16]⟩
abbrev S100000x16 : Shape := ⟨2, ![100000, 16]⟩
abbrev S100000 : Shape := ⟨1, ![100000]⟩
abbrev S100000x1 : Shape := ⟨2, ![100000, 1]⟩
abbrev S100000x64 : Shape := ⟨2, ![100000, 64]⟩
abbrev S1x64 : Shape := ⟨2, ![1, 64]⟩

class Facts : Prop where
  transposes_S32x128_S128x32_1_0 : S32x128.Transposes [1, 0] S128x32
  bcast_S32_S1x1x32_2 : S32.BroadcastsInDim S1x1x32 (![2] : Fin 1 → Fin S1x1x32.rank)
  bcast_S1x1x32_S1x100000x32_0_1_2 : S1x1x32.BroadcastsInDim S1x100000x32 (![0, 1, 2] : Fin 3 → Fin S1x100000x32.rank)
  bcast_S_S1x100000x32 : S_.BroadcastsInDim S1x100000x32 (![] : Fin 0 → Fin S1x100000x32.rank)
  transposes_S64x32_S32x64_1_0 : S64x32.Transposes [1, 0] S32x64
  bcast_S64_S1x1x64_2 : S64.BroadcastsInDim S1x1x64 (![2] : Fin 1 → Fin S1x1x64.rank)
  bcast_S1x1x64_S1x100000x64_0_1_2 : S1x1x64.BroadcastsInDim S1x100000x64 (![0, 1, 2] : Fin 3 → Fin S1x100000x64.rank)
  bcast_S_S1x100000x64 : S_.BroadcastsInDim S1x100000x64 (![] : Fin 0 → Fin S1x100000x64.rank)
  transposes_S16x64_S64x16_1_0 : S16x64.Transposes [1, 0] S64x16
  bcast_S16_S1x1x16_2 : S16.BroadcastsInDim S1x1x16 (![2] : Fin 1 → Fin S1x1x16.rank)
  bcast_S1x1x16_S1x100000x16_0_1_2 : S1x1x16.BroadcastsInDim S1x100000x16 (![0, 1, 2] : Fin 3 → Fin S1x100000x16.rank)
  shapeCasts_S1x100000x16_S100000x16 : S1x100000x16.ShapeCasts S100000x16
  slices_S100000x16_S64x16_0_0 : S100000x16.Slices ![0, 0] S64x16
  reducesTo_S100000x16_S100000_d1 : S100000x16.ReducesTo [1] S100000
  h_S_ : 0 < S_.numel
  bcast_S100000_S100000x1_0 : S100000.BroadcastsInDim S100000x1 (![0] : Fin 1 → Fin S100000x1.rank)
  reducesTo_S64x16_S64_d1 : S64x16.ReducesTo [1] S64
  transposes_S64x16_S16x64_1_0 : S64x16.Transposes [1, 0] S16x64
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  bcast_S_S100000 : S_.BroadcastsInDim S100000 (![] : Fin 0 → Fin S100000.rank)
  shapeCasts_S100000x1_S100000 : S100000x1.ShapeCasts S100000
  dot_S1x100000x128_S128x32_S1x100000x32_2_0_01_1_n_n_wf : DotDims.WF S1x100000x128 S128x32 S1x100000x32 [2] [0] [0, 1] [1] [] []
  dot_S1x100000x32_S32x64_S1x100000x64_2_0_01_1_n_n_wf : DotDims.WF S1x100000x32 S32x64 S1x100000x64 [2] [0] [0, 1] [1] [] []
  dot_S1x100000x64_S64x16_S1x100000x16_2_0_01_1_n_n_wf : DotDims.WF S1x100000x64 S64x16 S1x100000x16 [2] [0] [0, 1] [1] [] []
  dot_S100000x16_S16x64_S100000x64_1_0_0_1_n_n_wf : DotDims.WF S100000x16 S16x64 S100000x64 [1] [0] [0] [1] [] []

variable [Facts]

def dot_S1x100000x128_S128x32_S1x100000x32_2_0_01_1_n_n : DotDims S1x100000x128 S128x32 S1x100000x32 where
  lhsContracting := [2]
  rhsContracting := [0]
  lhsNonContracting := [0, 1]
  rhsNonContracting := [1]
  lhsBatch := []
  rhsBatch := []
  wf := dot_S1x100000x128_S128x32_S1x100000x32_2_0_01_1_n_n_wf
def dot_S1x100000x32_S32x64_S1x100000x64_2_0_01_1_n_n : DotDims S1x100000x32 S32x64 S1x100000x64 where
  lhsContracting := [2]
  rhsContracting := [0]
  lhsNonContracting := [0, 1]
  rhsNonContracting := [1]
  lhsBatch := []
  rhsBatch := []
  wf := dot_S1x100000x32_S32x64_S1x100000x64_2_0_01_1_n_n_wf
def dot_S1x100000x64_S64x16_S1x100000x16_2_0_01_1_n_n : DotDims S1x100000x64 S64x16 S1x100000x16 where
  lhsContracting := [2]
  rhsContracting := [0]
  lhsNonContracting := [0, 1]
  rhsNonContracting := [1]
  lhsBatch := []
  rhsBatch := []
  wf := dot_S1x100000x64_S64x16_S1x100000x16_2_0_01_1_n_n_wf
def dot_S100000x16_S16x64_S100000x64_1_0_0_1_n_n : DotDims S100000x16 S16x64 S100000x64 where
  lhsContracting := [1]
  rhsContracting := [0]
  lhsNonContracting := [0]
  rhsNonContracting := [1]
  lhsBatch := []
  rhsBatch := []
  wf := dot_S100000x16_S16x64_S100000x64_1_0_0_1_n_n_wf
def fn_relu {F : FTy → Type} [FloatOps F] (arg0 : FVec F S1x100000x32 .f32) : FVec F S1x100000x32 .f32 :=
  let cst : FVec F S_ .f32 := constant S_ .f32 0x00000000#32
  let v0 : FVec F S1x100000x32 .f32 := broadcastInDim S1x100000x32 ![] bcast_S_S1x100000x32 cst
  let v1 : FVec F S1x100000x32 .f32 := maximumf arg0 v0
  v1

def fn_relu_0 {F : FTy → Type} [FloatOps F] (arg0 : FVec F S1x100000x64 .f32) : FVec F S1x100000x64 .f32 :=
  let cst : FVec F S_ .f32 := constant S_ .f32 0x00000000#32
  let v0 : FVec F S1x100000x64 .f32 := broadcastInDim S1x100000x64 ![] bcast_S_S1x100000x64 cst
  let v1 : FVec F S1x100000x64 .f32 := maximumf arg0 v0
  v1

def fn_part2 {F : FTy → Type} [FloatOps F] (main_v40 : IVec S100000 1) (main_v41 : FVec F S100000 .f32) : IVec S100000 1 :=
  let main_cst_5 : FVec F S_ .f32 := constant S_ .f32 0x7F800000#32
  let main_v42 : FVec F S100000 .f32 := broadcastInDim S100000 ![] bcast_S_S100000 main_cst_5
  let main_v43 : IVec S100000 1 := cmpf .olt main_v41 main_v42
  let main_v44 : IVec S100000 1 := andi main_v40 main_v43
  main_v44

def fn_part1 {F : FTy → Type} [FloatOps F] (main_v17 : FVec F S100000x16 .f32) (main_v18 : FVec F S64x16 .f32) (main_v21 : FVec F S100000x1 .f32) (main_v22 : FVec F S64x16 .f32) : IVec S100000 1 :=
  let main_cst_0 : FVec F S_ .f32 := constant S_ .f32 0x00000000#32
  let main_v23 : FVec F S64 .f32 := (fun x v => Host.reduceAdd x v reducesTo_S64x16_S64_d1 h_S_) main_v22 main_cst_0
  let main_v24 : FVec F S16x64 .f32 := (transpose S16x64 [1, 0] · transposes_S64x16_S16x64_1_0) main_v18
  let main_v25 : FVec F S100000x64 .f32 := (fun l r => Host.dotGeneral dot_S100000x16_S16x64_S100000x64_1_0_0_1_n_n none l r) main_v17 main_v24
  let main_cst_1 : FVec F S_ .f32 := constant S_ .f32 0x40000000#32
  let main_v26 : FVec F S100000x64 .f32 := broadcastInDim S100000x64 ![] bcast_S_S100000x64 main_cst_1
  let main_v27 : FVec F S100000x64 .f32 := mulf main_v26 main_v25
  let main_v28 : FVec F S100000x64 .f32 := broadcastInDim S100000x64 ![0, 1] bcast_S100000x1_S100000x64_0_1 main_v21
  let main_v29 : FVec F S100000x64 .f32 := subf main_v28 main_v27
  let main_v30 : FVec F S1x64 .f32 := broadcastInDim S1x64 ![1] bcast_S64_S1x64_1 main_v23
  let main_v31 : FVec F S100000x64 .f32 := broadcastInDim S100000x64 ![0, 1] bcast_S1x64_S100000x64_0_1 main_v30
  let main_v32 : FVec F S100000x64 .f32 := addf main_v29 main_v31
  let main_cst_2 : FVec F S_ .f32 := constant S_ .f32 0x7F800000#32
  let main_v33 : FVec F S100000 .f32 := (fun x v => Host.reduce FloatOps.minimumf x v reducesTo_S100000x64_S100000_d1 h_S_) main_v32 main_cst_2
  let main_v34 : FVec F S100000x1 .f32 := broadcastInDim S100000x1 ![0] bcast_S100000_S100000x1_0 main_v33
  let main_v35 : FVec F S100000x64 .f32 := broadcastInDim S100000x64 ![0, 1] bcast_S100000x1_S100000x64_0_1 main_v34
  let main_v36 : IVec S100000x64 1 := cmpf .oeq main_v32 main_v35
  let main_v37 : FVec F S100000x64 .f32 := uitofp .f32 main_v36
  let main_cst_3 : FVec F S_ .f32 := constant S_ .f32 0x00000000#32
  let main_v38 : FVec F S100000 .f32 := (fun x v => Host.reduceAdd x v reducesTo_S100000x64_S100000_d1 h_S_) main_v37 main_cst_3
  let main_cst_4 : FVec F S_ .f32 := constant S_ .f32 0x3F800000#32
  let main_v39 : FVec F S100000 .f32 := broadcastInDim S100000 ![] bcast_S_S100000 main_cst_4
  let main_v40 : IVec S100000 1 := cmpf .oeq main_v38 main_v39
  let main_v41 : FVec F S100000 .f32 := shapeCast S100000 main_v21 shapeCasts_S100000x1_S100000
  fn_part2 (F := F) main_v40 main_v41

def fn {F : FTy → Type} [FloatOps F] (main_arg0 : FVec F S1x100000x128 .f32) (main_arg1 : FVec F S32x128 .f32) (main_arg2 : FVec F S32 .f32) (main_arg3 : FVec F S64x32 .f32) (main_arg4 : FVec F S64 .f32) (main_arg5 : FVec F S16x64 .f32) (main_arg6 : FVec F S16 .f32) (main_arg7 : FVec F S16x64 .f32) (main_arg8 : FVec F S16 .f32) (main_arg9 : FVec F S32x16 .f32) (main_arg10 : FVec F S32 .f32) (main_arg11 : FVec F S128x32 .f32) (main_arg12 : FVec F S128 .f32) (main_arg13 : IVec S_ 32) (main_arg14 : IVec S_ 32) (main_arg15 : IVec S_ 32) : IVec S100000 1 :=
  let main_v0 : FVec F S128x32 .f32 := (transpose S128x32 [1, 0] · transposes_S32x128_S128x32_1_0) main_arg1
  let main_v1 : FVec F S1x100000x32 .f32 := (fun l r => Host.dotGeneral dot_S1x100000x128_S128x32_S1x100000x32_2_0_01_1_n_n none l r) main_arg0 main_v0
  let main_v2 : FVec F S1x1x32 .f32 := broadcastInDim S1x1x32 ![2] bcast_S32_S1x1x32_2 main_arg2
  let main_v3 : FVec F S1x100000x32 .f32 := broadcastInDim S1x100000x32 ![0, 1, 2] bcast_S1x1x32_S1x100000x32_0_1_2 main_v2
  let main_v4 : FVec F S1x100000x32 .f32 := addf main_v1 main_v3
  let main_v5 : FVec F S1x100000x32 .f32 := fn_relu (F := F) main_v4
  let main_v6 : FVec F S32x64 .f32 := (transpose S32x64 [1, 0] · transposes_S64x32_S32x64_1_0) main_arg3
  let main_v7 : FVec F S1x100000x64 .f32 := (fun l r => Host.dotGeneral dot_S1x100000x32_S32x64_S1x100000x64_2_0_01_1_n_n none l r) main_v5 main_v6
  let main_v8 : FVec F S1x1x64 .f32 := broadcastInDim S1x1x64 ![2] bcast_S64_S1x1x64_2 main_arg4
  let main_v9 : FVec F S1x100000x64 .f32 := broadcastInDim S1x100000x64 ![0, 1, 2] bcast_S1x1x64_S1x100000x64_0_1_2 main_v8
  let main_v10 : FVec F S1x100000x64 .f32 := addf main_v7 main_v9
  let main_v11 : FVec F S1x100000x64 .f32 := fn_relu_0 (F := F) main_v10
  let main_v12 : FVec F S64x16 .f32 := (transpose S64x16 [1, 0] · transposes_S16x64_S64x16_1_0) main_arg5
  let main_v13 : FVec F S1x100000x16 .f32 := (fun l r => Host.dotGeneral dot_S1x100000x64_S64x16_S1x100000x16_2_0_01_1_n_n none l r) main_v11 main_v12
  let main_v14 : FVec F S1x1x16 .f32 := broadcastInDim S1x1x16 ![2] bcast_S16_S1x1x16_2 main_arg6
  let main_v15 : FVec F S1x100000x16 .f32 := broadcastInDim S1x100000x16 ![0, 1, 2] bcast_S1x1x16_S1x100000x16_0_1_2 main_v14
  let main_v16 : FVec F S1x100000x16 .f32 := addf main_v13 main_v15
  let main_v17 : FVec F S100000x16 .f32 := shapeCast S100000x16 main_v16 shapeCasts_S1x100000x16_S100000x16
  let main_v18 : FVec F S64x16 .f32 := (extractStridedSlice S64x16 ![0, 0] · slices_S100000x16_S64x16_0_0) main_v17
  let main_v19 : FVec F S100000x16 .f32 := mulf main_v17 main_v17
  let main_cst : FVec F S_ .f32 := constant S_ .f32 0x00000000#32
  let main_v20 : FVec F S100000 .f32 := (fun x v => Host.reduceAdd x v reducesTo_S100000x16_S100000_d1 h_S_) main_v19 main_cst
  let main_v21 : FVec F S100000x1 .f32 := broadcastInDim S100000x1 ![0] bcast_S100000_S100000x1_0 main_v20
  let main_v22 : FVec F S64x16 .f32 := mulf main_v18 main_v18
  fn_part1 (F := F) main_v17 main_v18 main_v21 main_v22
-- ==== Kernel.lean ====
abbrev S1x100000x128 : Shape := ⟨3, ![1, 100000, 128]⟩
abbrev S32x128 : Shape := ⟨2, ![32, 128]⟩
abbrev S32 : Shape := ⟨1, ![32]⟩
abbrev S64x32 : Shape := ⟨2, ![64, 32]⟩
abbrev S64 : Shape := ⟨1, ![64]⟩
abbrev S16x64 : Shape := ⟨2, ![16, 64]⟩
abbrev S16 : Shape := ⟨1, ![16]⟩
abbrev S32x16 : Shape := ⟨2, ![32, 16]⟩
abbrev S128x32 : Shape := ⟨2, ![128, 32]⟩
abbrev S128 : Shape := ⟨1, ![128]⟩
abbrev S_ : Shape := ⟨0, ![]⟩
abbrev S1x32 : Shape := ⟨2, ![1, 32]⟩
abbrev S32x64 : Shape := ⟨2, ![32, 64]⟩
abbrev S1x64 : Shape := ⟨2, ![1, 64]⟩
abbrev S16x1 : Shape := ⟨2, ![16, 1]⟩
abbrev S5x1x20000 : Shape := ⟨3, ![5, 1, 20000]⟩
abbrev S1x20000x128 : Shape := ⟨3, ![1, 20000, 128]⟩
abbrev S5x16x20000 : Shape := ⟨3, ![5, 16, 20000]⟩
abbrev S64x1 : Shape := ⟨2, ![64, 1]⟩
abbrev S2x20000 : Shape := ⟨2, ![2, 20000]⟩
abbrev S20000x128 : Shape := ⟨2, ![20000, 128]⟩
abbrev S20000x32 : Shape := ⟨2, ![20000, 32]⟩
abbrev S20000x64 : Shape := ⟨2, ![20000, 64]⟩
abbrev S16x20000 : Shape := ⟨2, ![16, 20000]⟩
abbrev S1x16x20000 : Shape := ⟨3, ![1, 16, 20000]⟩
abbrev S64x64 : Shape := ⟨2, ![64, 64]⟩
abbrev S64x20000 : Shape := ⟨2, ![64, 20000]⟩
abbrev S20000 : Shape := ⟨1, ![20000]⟩
abbrev S1x20000 : Shape := ⟨2, ![1, 20000]⟩
abbrev S1x1x20000 : Shape := ⟨3, ![1, 1, 20000]⟩
abbrev S1 : Shape := ⟨1, ![1]⟩
abbrev S1x1 : Shape := ⟨2, ![1, 1]⟩
abbrev S100000 : Shape := ⟨1, ![100000]⟩

abbrev nBuf : Space → Nat
  | .hbm => 23
  | .vmem => 18
  | .smem => 0
  | _ => 0

abbrev bufTy : (tb : Table) → Fin (tcTables nBuf tb) → BufTy
  | .hbm, ⟨0, _⟩ => ⟨S1x100000x128, .f32⟩
  | .hbm, ⟨1, _⟩ => ⟨S32x128, .f32⟩
  | .hbm, ⟨2, _⟩ => ⟨S32, .f32⟩
  | .hbm, ⟨3, _⟩ => ⟨S64x32, .f32⟩
  | .hbm, ⟨4, _⟩ => ⟨S64, .f32⟩
  | .hbm, ⟨5, _⟩ => ⟨S16x64, .f32⟩
  | .hbm, ⟨6, _⟩ => ⟨S16, .f32⟩
  | .hbm, ⟨7, _⟩ => ⟨S16x64, .f32⟩
  | .hbm, ⟨8, _⟩ => ⟨S16, .f32⟩
  | .hbm, ⟨9, _⟩ => ⟨S32x16, .f32⟩
  | .hbm, ⟨10, _⟩ => ⟨S32, .f32⟩
  | .hbm, ⟨11, _⟩ => ⟨S128x32, .f32⟩
  | .hbm, ⟨12, _⟩ => ⟨S128, .f32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S128x32, .f32⟩
  | .hbm, ⟨17, _⟩ => ⟨S1x32, .f32⟩
  | .hbm, ⟨18, _⟩ => ⟨S32x64, .f32⟩
  | .hbm, ⟨19, _⟩ => ⟨S1x64, .f32⟩
  | .hbm, ⟨20, _⟩ => ⟨S16x1, .f32⟩
  | .hbm, ⟨21, _⟩ => ⟨S5x1x20000, .f32⟩
  | .hbm, ⟨22, _⟩ => ⟨S100000, .f32⟩
  | .local _ .vmem, ⟨0, _⟩ => ⟨S1x20000x128, .f32⟩
  | .local _ .vmem, ⟨1, _⟩ => ⟨S1x20000x128, .f32⟩
  | .local _ .vmem, ⟨2, _⟩ => ⟨S128x32, .f32⟩
  | .local _ .vmem, ⟨3, _⟩ => ⟨S1x32, .f32⟩
  | .local _ .vmem, ⟨4, _⟩ => ⟨S32x64, .f32⟩
  | .local _ .vmem, ⟨5, _⟩ => ⟨S1x64, .f32⟩
  | .local _ .vmem, ⟨6, _⟩ => ⟨S16x64, .f32⟩
  | .local _ .vmem, ⟨7, _⟩ => ⟨S16x1, .f32⟩
  | .local _ .vmem, ⟨8, _⟩ => ⟨S5x1x20000, .f32⟩
  | .local _ .vmem, ⟨9, _⟩ => ⟨S5x16x20000, .f32⟩
  | .local _ .vmem, ⟨10, _⟩ => ⟨S5x1x20000, .f32⟩
  | .local _ .vmem, ⟨11, _⟩ => ⟨S5x1x20000, .f32⟩
  | .local _ .vmem, ⟨12, _⟩ => ⟨S16x64, .f32⟩
  | .local _ .vmem, ⟨13, _⟩ => ⟨S64x1, .f32⟩
  | .local _ .vmem, ⟨14, _⟩ => ⟨S16x64, .f32⟩
  | .local _ .vmem, ⟨15, _⟩ => ⟨S16x64, .f32⟩
  | .local _ .vmem, ⟨16, _⟩ => ⟨S1x64, .f32⟩
  | .local _ .vmem, ⟨17, _⟩ => ⟨S2x20000, .f32⟩
  | _, _ => ⟨S1x100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_scratch6 : Ref sig .tc := ⟨.vmem, 15, rfl⟩
abbrev cc0_scratch7 : Ref sig .tc := ⟨.vmem, 16, rfl⟩
abbrev cc0_scratch8 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8

abbrev nD : Nat := 1
abbrev τ : Topo := Topo.v7x

variable {F : FTy → Type} [FloatOps F]

abbrev grid0 : Pipeline.Grid := ⟨1, ![11], ![false]⟩

def k0_cond1 (i : grid0.Coords) : BitVec 1 :=
  let arg0 : BitVec 32 := BitVec.ofNat 32 (i 0).val
  let c5_i32 : BitVec 32 := 5#32
  let v0 : BitVec 1 := Scalar.cmpi .slt arg0 c5_i32
  let v1 : BitVec 32 := Scalar.extui v0
  let c0_i32 : BitVec 32 := 0#32
  let v2 : BitVec 1 := Scalar.cmpi .ne v1 c0_i32
  v2

def k0_off1 (i : grid0.Coords) : Fin 3 → Nat :=
  let arg0 : BitVec 32 := BitVec.ofNat 32 (i 0).val
  let v37 : Index := Scalar.indexCast arg0
  let c0_22 : Index := 0#32
  let c0_23 : Index := 0#32
  ![v37.toNat, 0, 0]
def k0_off2 (i : grid0.Coords) : Fin 3 → Nat :=
  let arg0 : BitVec 32 := BitVec.ofNat 32 (i 0).val
  let v61 : Index := Scalar.indexCast arg0
  let c0_35 : Index := 0#32
  let c0_36 : Index := 0#32
  ![v61.toNat, 0, 0]
def k0_cond4 (i : grid0.Coords) : BitVec 1 :=
  let arg0 : BitVec 32 := BitVec.ofNat 32 (i 0).val
  let c5_i32_0 : BitVec 32 := 5#32
  let v3 : BitVec 1 := Scalar.cmpi .sge arg0 c5_i32_0
  let c10_i32 : BitVec 32 := 10#32
  let v4 : BitVec 1 := Scalar.cmpi .slt arg0 c10_i32
  let v5 : BitVec 1 := Scalar.andi v3 v4
  let v6 : BitVec 32 := Scalar.extui v5
  let c0_i32_1 : BitVec 32 := 0#32
  let v7 : BitVec 1 := Scalar.cmpi .ne v6 c0_i32_1
  v7

def k0_off3 (i : grid0.Coords) : Fin 3 → Nat :=
  let arg0 : BitVec 32 := BitVec.ofNat 32 (i 0).val
  let c5_i32_4 : BitVec 32 := 5#32
  let v11 : BitVec 32 := Scalar.subi arg0 c5_i32_4
  let v12 : Index := Scalar.indexCast v11
  let c0 : Index := 0#32
  let c0_5 : Index := 0#32
  ![v12.toNat, 0, 0]
def k0_off4 (i : grid0.Coords) : Fin 3 → Nat :=
  let arg0 : BitVec 32 := BitVec.ofNat 32 (i 0).val
  let c5_i32_4 : BitVec 32 := 5#32
  let v11 : BitVec 32 := Scalar.subi arg0 c5_i32_4
  let v15 : Index := Scalar.indexCast v11
  let c0_6 : Index := 0#32
  let c0_7 : Index := 0#32
  ![v15.toNat, 0, 0]
def k0_cond7 (i : grid0.Coords) : BitVec 1 :=
  let arg0 : BitVec 32 := BitVec.ofNat 32 (i 0).val
  let c10_i32_2 : BitVec 32 := 10#32
  let v8 : BitVec 1 := Scalar.cmpi .eq arg0 c10_i32_2
  let v9 : BitVec 32 := Scalar.extui v8
  let c0_i32_3 : BitVec 32 := 0#32
  let v10 : BitVec 1 := Scalar.cmpi .ne v9 c0_i32_3
  v10

@[reducible] def k0_t1_loop : Scf.Loop 32 :=
  let c0_i32_7 : BitVec 32 := 0#32
  let c5_i32_8 : BitVec 32 := 5#32
  let v17 : BitVec 32 := Scalar.addi c0_i32_7 c5_i32_8
  let c1_i32 : BitVec 32 := 1#32
  ⟨c0_i32_7, v17, c1_i32⟩
def k0_off5 (k0_t1 : Fin k0_t1_loop.trips) : Fin 3 → Nat :=
  let c0_i32_7 : BitVec 32 := 0#32
  let c1_i32 : BitVec 32 := 1#32
  let arg18 : BitVec 32 := Scf.iv c0_i32_7 c1_i32 k0_t1
  let v18 : Index := Scalar.indexCast arg18
  let c0_10 : Index := 0#32
  let c0_11 : Index := 0#32
  ![v18.toNat, 0, 0]
def cc0_transform_0 (i : grid0.Coords) : Fin 3 → Nat :=
  let arg0 : BitVec 32 := BitVec.ofNat 32 (i 0).val
  let c4_i32 : BitVec 32 := 4#32
  let v0 : BitVec 32 := Scalar.minsi arg0 c4_i32
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x20000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S5x1x20000 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S1x100000x128 : Shape := ⟨3, ![1, 100000, 128]⟩
abbrev S32x128 : Shape := ⟨2, ![32, 128]⟩
abbrev S32 : Shape := ⟨1, ![32]⟩
abbrev S64x32 : Shape := ⟨2, ![64, 32]⟩
abbrev S64 : Shape := ⟨1, ![64]⟩
abbrev S16x64 : Shape := ⟨2, ![16, 64]⟩
abbrev S16 : Shape := ⟨1, ![16]⟩
abbrev S32x16 : Shape := ⟨2, ![32, 16]⟩
abbrev S128x32 : Shape := ⟨2, ![128, 32]⟩
abbrev S128 : Shape := ⟨1, ![128]⟩
abbrev S_ : Shape := ⟨0, ![]⟩
abbrev S1x100000x32 : Shape := ⟨3, ![1, 100000, 32]⟩
abbrev S1x1x32 : Shape := ⟨3, ![1, 1, 32]⟩
abbrev S32x64 : Shape := ⟨2, ![32, 64]⟩
abbrev S1x100000x64 : Shape := ⟨3, ![1, 100000, 64]⟩
abbrev S1x1x64 : Shape := ⟨3, ![1, 1, 64]⟩
abbrev S64x16 : Shape := ⟨2, ![64, 16]⟩
abbrev S1x100000x16 : Shape := ⟨3, ![1, 100000, 16]⟩
abbrev S1x1x16 : Shape := ⟨3, ![1, 1, 16]⟩
abbrev S16x32 : Shape := ⟨2, ![16, 32]⟩
abbrev S1x1x128 : Shape := ⟨3, ![1, 1, 128]⟩
abbrev S100000x16 : Shape := ⟨2, ![100000, 16]⟩
abbrev S100000 : Shape := ⟨1, ![100000]⟩
abbrev S100000x1 : Shape := ⟨2, ![100000, 1]⟩
abbrev S100000x64 : Shape := ⟨2, ![100000, 64]⟩
abbrev S1x64 : Shape := ⟨2, ![1, 64]⟩
abbrev S64x1 : Shape := ⟨2, ![64, 1]⟩
abbrev S1 : Shape := ⟨1, ![1]⟩
abbrev S1x1 : Shape := ⟨2, ![1, 1]⟩
abbrev S1x100000 : Shape := ⟨2, ![1, 100000]⟩

abbrev nBuf : Space → Nat
  | .hbm => 154
  | .vmem => 0
  | .smem => 0
  | _ => 0

abbrev hbmTy0_0 (i : Nat) : BufTy := match i % 128 with
  | 0 => ⟨S1x100000x128, .f32⟩
  | 1 => ⟨S32x128, .f32⟩
  | 2 => ⟨S32, .f32⟩
  | 3 => ⟨S64x32, .f32⟩
  | 4 => ⟨S64, .f32⟩
  | 5 => ⟨S16x64, .f32⟩
  | 6 => ⟨S16, .f32⟩
  | 7 => ⟨S16x64, .f32⟩
  | 8 => ⟨S16, .f32⟩
  | 9 => ⟨S32x16, .f32⟩
  | 10 => ⟨S32, .f32⟩
  | 11 => ⟨S128x32, .f32⟩
  | 12 => ⟨S128, .f32⟩
  | 13 => ⟨S_, .i32⟩
  | 14 => ⟨S_, .i32⟩
  | 15 => ⟨S_, .i32⟩
  | 16 => ⟨S128x32, .f32⟩
  | 17 => ⟨S1x100000x32, .f32⟩
  | 18 => ⟨S1x1x32, .f32⟩
  | 19 => ⟨S1x100000x32, .f32⟩
  | 20 => ⟨S1x100000x32, .f32⟩
  | 21 => ⟨S_, .f32⟩
  | 22 => ⟨S1x100000x32, .f32⟩
  | 23 => ⟨S1x100000x32, .f32⟩
  | 24 => ⟨S32x64, .f32⟩
  | 25 => ⟨S1x100000x64, .f32⟩
  | 26 => ⟨S1x1x64, .f32⟩
  | 27 => ⟨S1x100000x64, .f32⟩
  | 28 => ⟨S1x100000x64, .f32⟩
  | 29 => ⟨S_, .f32⟩
  | 30 => ⟨S1x100000x64, .f32⟩
  | 31 => ⟨S1x100000x64, .f32⟩
  | 32 => ⟨S64x16, .f32⟩
  | 33 => ⟨S1x100000x16, .f32⟩
  | 34 => ⟨S1x1x16, .f32⟩
  | 35 => ⟨S1x100000x16, .f32⟩
  | 36 => ⟨S1x100000x16, .f32⟩
  | 37 => ⟨S64x16, .f32⟩
  | 38 => ⟨S1x100000x16, .f32⟩
  | 39 => ⟨S1x1x16, .f32⟩
  | 40 => ⟨S1x100000x16, .f32⟩
  | 41 => ⟨S1x100000x16, .f32⟩
  | 42 => ⟨S16x32, .f32⟩
  | 43 => ⟨S1x100000x32, .f32⟩
  | 44 => ⟨S1x1x32, .f32⟩
  | 45 => ⟨S1x100000x32, .f32⟩
  | 46 => ⟨S1x100000x32, .f32⟩
  | 47 => ⟨S_, .f32⟩
  | 48 => ⟨S1x100000x32, .f32⟩
  | 49 => ⟨S1x100000x32, .f32⟩
  | 50 => ⟨S32x128, .f32⟩
  | 51 => ⟨S1x100000x128, .f32⟩
  | 52 => ⟨S1x1x128, .f32⟩
  | 53 => ⟨S1x100000x128, .f32⟩
  | 54 => ⟨S1x100000x128, .f32⟩
  | 55 => ⟨S_, .f32⟩
  | 56 => ⟨S1x100000x128, .f32⟩
  | 57 => ⟨S1x100000x128, .f32⟩
  | 58 => ⟨S1x100000x128, .f32⟩
  | 59 => ⟨S1x100000x128, .f32⟩
  | 60 => ⟨S_, .f32⟩
  | 61 => ⟨S_, .f32⟩
  | 62 => ⟨S_, .f32⟩
  | 63 => ⟨S_, .f32⟩
  | 64 => ⟨S100000x16, .f32⟩
  | 65 => ⟨S64x16, .f32⟩
  | 66 => ⟨S100000x16, .f32⟩
  | 67 => ⟨S_, .f32⟩
  | 68 => ⟨S100000, .f32⟩
  | 69 => ⟨S100000x1, .f32⟩
  | 70 => ⟨S64x16, .f32⟩
  | 71 => ⟨S_, .f32⟩
  | 72 => ⟨S64, .f32⟩
  | 73 => ⟨S16x64, .f32⟩
  | 74 => ⟨S100000x64, .f32⟩
  | 75 => ⟨S_, .f32⟩
  | 76 => ⟨S100000x64, .f32⟩
  | 77 => ⟨S100000x64, .f32⟩
  | 78 => ⟨S100000x64, .f32⟩
  | 79 => ⟨S100000x64, .f32⟩
  | 80 => ⟨S1x64, .f32⟩
  | 81 => ⟨S100000x64, .f32⟩
  | 82 => ⟨S100000x64, .f32⟩
  | 83 => ⟨S100000x64, .i32⟩
  | 84 => ⟨S_, .f32⟩
  | 85 => ⟨S_, .i32⟩
  | 86 => ⟨S100000, .f32⟩
  | 87 => ⟨S100000, .i32⟩
  | 88 => ⟨S100000x16, .f32⟩
  | 89 => ⟨S_, .f32⟩
  | 90 => ⟨S64x16, .f32⟩
  | 91 => ⟨S100000x1, .i32⟩
  | 92 => ⟨S64x16, .f32⟩
  | 93 => ⟨S_, .f32⟩
  | 94 => ⟨S100000, .f32⟩
  | 95 => ⟨S_, .f32⟩
  | 96 => ⟨S64, .f32⟩
  | 97 => ⟨S100000x1, .i32⟩
  | 98 => ⟨S64, .f32⟩
  | 99 => ⟨S_, .f32⟩
  | 100 => ⟨S64, .f32⟩
  | 101 => ⟨S64, .f32⟩
  | 102 => ⟨S64x1, .f32⟩
  | 103 => ⟨S64x16, .f32⟩
  | 104 => ⟨S64x16, .f32⟩
  | 105 => ⟨S_, .i32⟩
  | 106 => ⟨S100000, .i32⟩
  | 107 => ⟨S100000, .i1⟩
  | 108 => ⟨S_, .i32⟩
  | 109 => ⟨S100000, .i32⟩
  | 110 => ⟨S100000, .i32⟩
  | 111 => ⟨S100000, .i32⟩
  | 112 => ⟨S100000x1, .i32⟩
  | 113 => ⟨S1, .i32⟩
  | 114 => ⟨S_, .i32⟩
  | 115 => ⟨S100000x1, .i32⟩
  | 116 => ⟨S100000x1, .i1⟩
  | 117 => ⟨S1x1, .i32⟩
  | 118 => ⟨S100000x1, .i32⟩
  | 119 => ⟨S100000x1, .i1⟩
  | 120 => ⟨S100000x1, .i1⟩
  | 121 => ⟨S_, .i1⟩
  | 122 => ⟨S100000, .i1⟩
  | 123 => ⟨S100000x16, .f32⟩
  | 124 => ⟨S100000x16, .i1⟩
  | 125 => ⟨S_, .f32⟩
  | 126 => ⟨S100000x16, .f32⟩
  | 127 => ⟨S100000x16, .f32⟩
  | _ => ⟨S1x100000x128, .f32⟩

abbrev hbmTy0_1 (i : Nat) : BufTy := match i % 128 with
  | 0 => ⟨S1x100000x16, .f32⟩
  | 1 => ⟨S1x100000x16, .f32⟩
  | 2 => ⟨S1x100000x16, .f32⟩
  | 3 => ⟨S_, .f32⟩
  | 4 => ⟨S1x100000, .f32⟩
  | 5 => ⟨S_, .f32⟩
  | 6 => ⟨S1x100000, .f32⟩
  | 7 => ⟨S1x100000, .f32⟩
  | 8 => ⟨S_, .f32⟩
  | 9 => ⟨S1, .f32⟩
  | 10 => ⟨S1x1, .f32⟩
  | 11 => ⟨S_, .f32⟩
  | 12 => ⟨S1, .f32⟩
  | 13 => ⟨S1x1, .f32⟩
  | 14 => ⟨S1x100000, .f32⟩
  | 15 => ⟨S1x100000, .f32⟩
  | 16 => ⟨S1x1, .f32⟩
  | 17 => ⟨S1x100000, .f32⟩
  | 18 => ⟨S1x100000, .f32⟩
  | 19 => ⟨S_, .f32⟩
  | 20 => ⟨S1x100000, .f32⟩
  | 21 => ⟨S1x100000, .f32⟩
  | 22 => ⟨S100000, .f32⟩
  | 23 => ⟨S1x100000, .f32⟩
  | 24 => ⟨S1x100000, .f32⟩
  | 25 => ⟨S100000, .f32⟩
  | _ => ⟨S1x100000x128, .f32⟩

abbrev hbmTy (i : Nat) : BufTy := match i / 128 with
  | 0 => hbmTy0_0 i
  | 1 => hbmTy0_1 i
  | _ => ⟨S1x100000x128, .f32⟩

abbrev bufTy : (tb : Table) → Fin (tcTables nBuf tb) → BufTy
  | .hbm, ⟨i, _⟩ => hbmTy i
  | _, _ => ⟨S1x100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_call0_cst : Ref sig .tc := ⟨.hbm, 21, rfl⟩
abbrev main_call0_v0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_call1_cst : Ref sig .tc := ⟨.hbm, 29, rfl⟩
abbrev main_call1_v0 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_call2_cst : Ref sig .tc := ⟨.hbm, 47, rfl⟩
abbrev main_call2_v0 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_call3_cst : Ref sig .tc := ⟨.hbm, 55, rfl⟩
abbrev main_call3_v0 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst : Ref sig .tc := ⟨.hbm, 60, rfl⟩
abbrev main_v36 : Ref sig .tc := ⟨.hbm, 61, rfl⟩
abbrev main_cst_0 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_1 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_2 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_3 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_call4_v0 : Ref sig .tc := ⟨.hbm, 83, rfl⟩
abbrev main_call4_cst : Ref sig .tc := ⟨.hbm, 84, rfl⟩
abbrev main_call4_c : Ref sig .tc := ⟨.hbm, 85, rfl⟩
abbrev main_call4_v1_0 : Ref sig .tc := ⟨.hbm, 86, rfl⟩
abbrev main_v54 : Ref sig .tc := ⟨.hbm, 87, rfl⟩
abbrev main_v55 : Ref sig .tc := ⟨.hbm, 88, rfl⟩
abbrev main_cst_4 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_5 : Ref sig .tc := ⟨.hbm, 93, rfl⟩
abbrev main_v59 : Ref sig .tc := ⟨.hbm, 94, rfl⟩
abbrev main_cst_6 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_cst_7 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_call5_c : Ref sig .tc := ⟨.hbm, 105, rfl⟩
abbrev main_call5_v0 : Ref sig .tc := ⟨.hbm, 106, rfl⟩
abbrev main_call5_v1 : Ref sig .tc := ⟨.hbm, 107, rfl⟩
abbrev main_call5_c_0 : Ref sig .tc := ⟨.hbm, 108, rfl⟩
abbrev main_call5_v2 : Ref sig .tc := ⟨.hbm, 109, rfl⟩
abbrev main_call5_v3 : Ref sig .tc := ⟨.hbm, 110, rfl⟩
abbrev main_call5_v4 : Ref sig .tc := ⟨.hbm, 111, rfl⟩
abbrev main_call5_v5 : Ref sig .tc := ⟨.hbm, 112, rfl⟩
abbrev main_call5_c_1 : Ref sig .tc := ⟨.hbm, 113, rfl⟩
abbrev main_call5_c_2 : Ref sig .tc := ⟨.hbm, 114, rfl⟩
abbrev main_call5_v6 : Ref sig .tc := ⟨.hbm, 115, rfl⟩
abbrev main_call5_v7 : Ref sig .tc := ⟨.hbm, 116, rfl⟩
abbrev main_call5_v8 : Ref sig .tc := ⟨.hbm, 117, rfl⟩
abbrev main_call5_v9 : Ref sig .tc := ⟨.hbm, 118, rfl⟩
abbrev main_call5_v10 : Ref sig .tc := ⟨.hbm, 119, rfl⟩
abbrev main_call5_v11 : Ref sig .tc := ⟨.hbm, 120, rfl⟩
abbrev main_call5_c_3 : Ref sig .tc := ⟨.hbm, 121, rfl⟩
abbrev main_call5_v12 : Ref sig .tc := ⟨.hbm, 122, rfl⟩
abbrev main_call5_v13 : Ref sig .tc := ⟨.hbm, 123, rfl⟩
abbrev main_call5_v14 : Ref sig .tc := ⟨.hbm, 124, rfl⟩
abbrev main_call5_cst : Ref sig .tc := ⟨.hbm, 125, rfl⟩
abbrev main_call5_v15 : Ref sig .tc := ⟨.hbm, 126, rfl⟩
abbrev main_v68 : Ref sig .tc := ⟨.hbm, 127, rfl⟩
abbrev main_v69 : Ref sig .tc := ⟨.hbm, 128, rfl⟩
abbrev main_v70 : Ref sig .tc := ⟨.hbm, 129, rfl⟩
abbrev main_v71 : Ref sig .tc := ⟨.hbm, 130, rfl⟩
abbrev main_cst_8 : Ref sig .tc := ⟨.hbm, 131, rfl⟩
abbrev main_v72 : Ref sig .tc := ⟨.hbm, 132, rfl⟩
abbrev main_cst_9 : Ref sig .tc := ⟨.hbm, 133, rfl⟩
abbrev main_v73 : Ref sig .tc := ⟨.hbm, 134, rfl⟩
abbrev main_v74 : Ref sig .tc := ⟨.hbm, 135, rfl⟩
abbrev main_cst_10 : Ref sig .tc := ⟨.hbm, 136, rfl⟩
abbrev main_v75 : Ref sig .tc := ⟨.hbm, 137, rfl⟩
abbrev main_v76 : Ref sig .tc := ⟨.hbm, 138, rfl⟩
abbrev main_cst_11 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_cst_12 : Ref sig .tc := ⟨.hbm, 147, rfl⟩
abbrev main_v84 : Ref sig .tc := ⟨.hbm, 148, rfl⟩
abbrev main_v85 : Ref sig .tc := ⟨.hbm, 149, rfl⟩
abbrev main_v86 : Ref sig .tc := ⟨.hbm, 150, rfl⟩
abbrev main_v87 : Ref sig .tc := ⟨.hbm, 151, rfl⟩
abbrev main_v88 : Ref sig .tc := ⟨.hbm, 152, rfl⟩
abbrev main_v89 : Ref sig .tc := ⟨.hbm, 153, rfl⟩

abbrev nD : Nat := 1
abbrev τ : Topo := Topo.v7x

variable {F : FTy → Type} [FloatOps F]
-- ==== Proof.KI.Run.lean ====
/- The kernel body run once per kind of grid point, at a symbolic point: what it holds before, what it holds after.

   A point of phase A (points 0 to 4) encodes one block and accumulates its clusters, a point of phase B (5 to 9)
   measures one block against the centres, the last point writes the result. -/
module

public import proofs.«01_k».proof.Proof.Gen.KernelIdeal.Frame
public import proofs.«01_k».proof.Proof.Gen.KernelIdeal.Loops
public import Idealize.ShloMosaic.Lib.VecWindow

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The conditions of the kernel's inner branches, of the point alone. -/
abbrev isAt (i : grid0.Coords) (k : BitVec 32) : Prop :=
  Scalar.cmpi .ne (Scalar.extui (Scalar.cmpi .eq (BitVec.ofNat 32 (i 0).val) k) : BitVec 32) 0#32 = 1#1

/-- What the nine scratch buffers hold. -/
structure St (F : FTy → Type) [FloatOps F] where
  z : Vec F S5x16x20000 .f32
  lab : Vec F S5x1x20000 .f32
  dist : Vec F S5x1x20000 .f32
  c0 : Vec F S16x64 .f32
  c2 : Vec F S64x1 .f32
  cent : Vec F S16x64 .f32
  sums : Vec F S16x64 .f32
  cnt : Vec F S1x64 .f32
  mm : Vec F S2x20000 .f32

/-- A block of a scratch array that has one slab per block lies inside it. -/
theorem inbL (b : ℕ) (hb : b < 5) : ∀ a, (![b, 0, 0] : Fin 3 → ℕ) a + S1x1x20000.size a ≤ S5x1x20000.size a :=
  fun a => match a with
    | ⟨0, _⟩ => by show b + 1 ≤ 5; omega
    | ⟨1, _⟩ => by show 0 + 1 ≤ 1; omega
    | ⟨2, _⟩ => by show 0 + 20000 ≤ 20000; omega

theorem inbZ (b : ℕ) (hb : b < 5) : ∀ a, (![b, 0, 0] : Fin 3 → ℕ) a + S1x16x20000.size a ≤ S5x16x20000.size a :=
  fun a => match a with
    | ⟨0, _⟩ => by show b + 1 ≤ 5; omega
    | ⟨1, _⟩ => by show 0 + 16 ≤ 16; omega
    | ⟨2, _⟩ => by show 0 + 20000 ≤ 20000; omega

/-- Every index of such an array lies in its own slab. -/
theorem inSlab (y : S5x1x20000.Idx) :
    ∀ a, (![(y 0).val, 0, 0] : Fin 3 → ℕ) a ≤ (y a).val ∧ (y a).val < (![(y 0).val, 0, 0] : Fin 3 → ℕ) a + S1x1x20000.size a :=
  fun a => match a with
    | ⟨0, _⟩ => ⟨le_refl _, Nat.lt_succ_self _⟩
    | ⟨1, _⟩ => ⟨Nat.zero_le _, by have := (y 1).isLt; show (y 1).val < 0 + 1; exact lt_of_lt_of_eq this (by decide)⟩
    | ⟨2, _⟩ => ⟨Nat.zero_le _, by have := (y 2).isLt; show (y 2).val < 0 + 20000; exact lt_of_lt_of_eq this (by decide)⟩

/-- The index inside its slab. -/
abbrev loc (y : S5x1x20000.Idx) : S1x1x20000.Idx := Rect.unitLocal (s := S5x1x20000) (off := ![(y 0).val, 0, 0]) (size := S1x1x20000.size) y (inSlab y)

/-- The slab of an array of one slab per block. -/
abbrev slabL (x : Vec F S5x1x20000 .f32) (b : ℕ) (hb : b < 5) : Vec F S1x1x20000 .f32 := VecWindow.window x ![b, 0, 0] S1x1x20000.size (inbL b hb)
abbrev slabZ (x : Vec F S5x16x20000 .f32) (b : ℕ) (hb : b < 5) : Vec F S1x16x20000 .f32 := VecWindow.window x ![b, 0, 0] S1x16x20000.size (inbZ b hb)

/-- The two rows of the running extremes. -/
abbrev row0 (x : Vec F S2x20000 .f32) : Vec F S1x20000 .f32 := VecWindow.window x ![0, 0] S1x20000.size inb_S2x20000_S1x20000_0_0
abbrev row1 (x : Vec F S2x20000 .f32) : Vec F S1x20000 .f32 := VecWindow.window x ![1, 0] S1x20000.size inb_S2x20000_S1x20000_1_0

theorem lt5 (y : S5x1x20000.Idx) : (y 0).val < 5 := (y 0).isLt

/-- What the last point writes, of the extremes' rows, the distances and the labels. -/
def outOf (mn mx : Vec F S1x20000 .f32) (dist lab : Vec F S5x1x20000 .f32) : Vec F S5x1x20000 .f32 :=
  fun y => k0_pay8 mn mx (slabL dist (y 0).val (lt5 y)) (slabL lab (y 0).val (lt5 y)) (loc y)

/-- A load of a whole buffer reads its contents, for each shape the kernel loads whole. -/
theorem ld_x (v : View sig .tc .vmem S1x20000x128 .f32) (f : v.ty.Contents (Elt F)) :
    v.readAt (Elt F) (Rect.unit (s := S1x20000x128) ![0, 0, 0] ![1, 20000, 128] inb_S1x20000x128_S1x20000x128_0_0_0).toLoadRect f = v.read (Elt F) f := View.readAt_full v f _
theorem ld_w1 (v : View sig .tc .vmem S128x32 .f32) (f : v.ty.Contents (Elt F)) :
    v.readAt (Elt F) (Rect.unit (s := S128x32) ![0, 0] ![128, 32] inb_S128x32_S128x32_0_0).toLoadRect f = v.read (Elt F) f := View.readAt_full v f _
theorem ld_b1 (v : View sig .tc .vmem S1x32 .f32) (f : v.ty.Contents (Elt F)) :
    v.readAt (Elt F) (Rect.unit (s := S1x32) ![0, 0] ![1, 32] inb_S1x32_S1x32_0_0).toLoadRect f = v.read (Elt F) f := View.readAt_full v f _
theorem ld_w2 (v : View sig .tc .vmem S32x64 .f32) (f : v.ty.Contents (Elt F)) :
    v.readAt (Elt F) (Rect.unit (s := S32x64) ![0, 0] ![32, 64] inb_S32x64_S32x64_0_0).toLoadRect f = v.read (Elt F) f := View.readAt_full v f _
theorem ld_b2 (v : View sig .tc .vmem S1x64 .f32) (f : v.ty.Contents (Elt F)) :
    v.readAt (Elt F) (Rect.unit (s := S1x64) ![0, 0] ![1, 64] inb_S1x64_S1x64_0_0).toLoadRect f = v.read (Elt F) f := View.readAt_full v f _
theorem ld_wm (v : View sig .tc .vmem S16x64 .f32) (f : v.ty.Contents (Elt F)) :
    v.readAt (Elt F) (Rect.unit (s := S16x64) ![0, 0] ![16, 64] inb_S16x64_S16x64_0_0).toLoadRect f = v.read (Elt F) f := View.readAt_full v f _
theorem ld_bm (v : View sig .tc .vmem S16x1 .f32) (f : v.ty.Contents (Elt F)) :
    v.readAt (Elt F) (Rect.unit (s := S16x1) ![0, 0] ![16, 1] inb_S16x1_S16x1_0_0).toLoadRect f = v.read (Elt F) f := View.readAt_full v f _
theorem ld_c2 (v : View sig .tc .vmem S64x1 .f32) (f : v.ty.Contents (Elt F)) :
    v.readAt (Elt F) (Rect.unit (s := S64x1) ![0, 0] ![64, 1] inb_S64x1_S64x1_0_0).toLoadRect f = v.read (Elt F) f := View.readAt_full v f _

/-- A load of a whole buffer after a store of the whole buffer reads what was stored. -/
theorem cov_wm (v : View sig .tc .vmem S16x64 .f32) (w : Vec F S16x64 .f32) (L : List (View.Piece (Elt F) S16x64 .f32)) :
    v.readCov (⟨Rect.unit (s := S16x64) ![0, 0] ![16, 64] inb_S16x64_S16x64_0_0, w⟩ :: L) (Rect.unit (s := S16x64) ![0, 0] ![16, 64] inb_S16x64_S16x64_0_0).toLoadRect = w :=
  View.readCov_full v _ _ w L
theorem cov_c2 (v : View sig .tc .vmem S64x1 .f32) (w : Vec F S64x1 .f32) (L : List (View.Piece (Elt F) S64x1 .f32)) :
    v.readCov (⟨Rect.unit (s := S64x1) ![0, 0] ![64, 1] inb_S64x1_S64x1_0_0, w⟩ :: L) (Rect.unit (s := S64x1) ![0, 0] ![64, 1] inb_S64x1_S64x1_0_0).toLoadRect = w :=
  View.readCov_full v _ _ w L
theorem cov_b2 (v : View sig .tc .vmem S1x64 .f32) (w : Vec F S1x64 .f32) (L : List (View.Piece (Elt F) S1x64 .f32)) :
    v.readCov (⟨Rect.unit (s := S1x64) ![0, 0] ![1, 64] inb_S1x64_S1x64_0_0, w⟩ :: L) (Rect.unit (s := S1x64) ![0, 0] ![1, 64] inb_S1x64_S1x64_0_0).toLoadRect = w :=
  View.readCov_full v _ _ w L

section
variable (c : Dev nD) (i : grid0.Coords)
  (arg1 : Memref sig .tc .vmem S1x20000x128 .f32) (harg1 : arg1.IsWhole) (arg2 : Memref sig .tc .vmem S128x32 .f32) (harg2 : arg2.IsWhole)
  (arg3 : Memref sig .tc .vmem S1x32 .f32) (harg3 : arg3.IsWhole) (arg4 : Memref sig .tc .vmem S32x64 .f32) (harg4 : arg4.IsWhole)
  (arg5 : Memref sig .tc .vmem S1x64 .f32) (harg5 : arg5.IsWhole) (arg6 : Memref sig .tc .vmem S16x64 .f32) (harg6 : arg6.IsWhole)
  (arg7 : Memref sig .tc .vmem S16x1 .f32) (harg7 : arg7.IsWhole) (arg8 : Memref sig .tc .vmem S5x1x20000 .f32) (harg8 : arg8.IsWhole)
  (arg9 : Memref sig .tc .vmem S5x16x20000 .f32) (harg9 : arg9.IsWhole) (arg10 : Memref sig .tc .vmem S5x1x20000 .f32) (harg10 : arg10.IsWhole)
  (arg11 : Memref sig .tc .vmem S5x1x20000 .f32) (harg11 : arg11.IsWhole) (arg12 : Memref sig .tc .vmem S16x64 .f32) (harg12 : arg12.IsWhole)
  (arg13 : Memref sig .tc .vmem S64x1 .f32) (harg13 : arg13.IsWhole) (arg14 : Memref sig .tc .vmem S16x64 .f32) (harg14 : arg14.IsWhole)
  (arg15 : Memref sig .tc .vmem S16x64 .f32) (harg15 : arg15.IsWhole) (arg16 : Memref sig .tc .vmem S1x64 .f32) (harg16 : arg16.IsWhole)
  (arg17 : Memref sig .tc .vmem S2x20000 .f32) (harg17 : arg17.IsWhole)

/-- The scratch buffers held at a state's contents. -/
def scr (s : St F) : sProp 𝕄 :=
  iprop(owns (c : Thread nD τ) arg9 fullShare s.z ∗ owns (c : Thread nD τ) arg10 fullShare s.lab ∗ owns (c : Thread nD τ) arg11 fullShare s.dist
    ∗ owns (c : Thread nD τ) arg12 fullShare s.c0 ∗ owns (c : Thread nD τ) arg13 fullShare s.c2 ∗ owns (c : Thread nD τ) arg14 fullShare s.cent
    ∗ owns (c : Thread nD τ) arg15 fullShare s.sums ∗ owns (c : Thread nD τ) arg16 fullShare s.cnt ∗ owns (c : Thread nD τ) arg17 fullShare s.mm)

/-- The blocks a point is given, held. -/
def ins (x : Vec F S1x20000x128 .f32) (w1 : Vec F S128x32 .f32) (b1 : Vec F S1x32 .f32) (w2 : Vec F S32x64 .f32) (b2 : Vec F S1x64 .f32)
    (wm : Vec F S16x64 .f32) (bm : Vec F S16x1 .f32) : sProp 𝕄 :=
  iprop(owns (c : Thread nD τ) arg1 fullShare x ∗ owns (c : Thread nD τ) arg2 fullShare w1 ∗ owns (c : Thread nD τ) arg3 fullShare b1
    ∗ owns (c : Thread nD τ) arg4 fullShare w2 ∗ owns (c : Thread nD τ) arg5 fullShare b2 ∗ owns (c : Thread nD τ) arg6 fullShare wm
    ∗ owns (c : Thread nD τ) arg7 fullShare bm)

variable (x : Vec F S1x20000x128 .f32) (w1 : Vec F S128x32 .f32) (b1 : Vec F S1x32 .f32) (w2 : Vec F S32x64 .f32) (b2 : Vec F S1x64 .f32)
  (wm : Vec F S16x64 .f32) (bm : Vec F S16x1 .f32) (s : St F)

set_option maxHeartbeats 4000000 in
/-- A middle point of phase A. -/
theorem run_mid (h1 : k0_cond1 i = 1#1) (h2 : ¬ isAt i 0#32) (h3 : ¬ isAt i 4#32) (h4 : ¬ k0_cond4 i = 1#1) (h7 : ¬ k0_cond7 i = 1#1)
    (E : Set ℕ) (K : PUnit → sProp 𝕄) :
    iprop(ins c arg1 arg2 arg3 arg4 arg5 arg6 arg7 x w1 b1 w2 b2 wm bm ∗ scr c arg9 arg10 arg11 arg12 arg13 arg14 arg15 arg16 arg17 s
      ∗ (iprop(ins c arg1 arg2 arg3 arg4 arg5 arg6 arg7 x w1 b1 w2 b2 wm bm
          ∗ scr c arg9 arg10 arg11 arg12 arg13 arg14 arg15 arg16 arg17
            { s with z := VecWindow.put s.z ![(i 0).val, 0, 0] S1x16x20000.size (k0_pay10 x w1 b1 w2 b2 wm bm)
                     lab := VecWindow.put s.lab ![(i 0).val, 0, 0] S1x1x20000.size (k0_pay17 (k0_pay9 x w1 b1 w2 b2 wm bm) s.c0 s.c2)
                     sums := k0_pay19 (k0_pay9 x w1 b1 w2 b2 wm bm) s.c0 s.c2 s.sums
                     cnt := k0_pay20 (k0_pay9 x w1 b1 w2 b2 wm bm) s.c0 s.c2 s.cnt }) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  obtain ⟨z, lab, dist, c0, c2, cent, sums, cnt, mm⟩ := s
  simp only [cc0__fused_kernel_eq_skeleton]
  unfold cc0__fused_kernel_skel ins scr
  simp only [k0_part1_eq_skeleton, k0_part2_eq_skeleton]
  unfold k0_part1_skel k0_part2_skel
  unfold owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩⟩, ⟨⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩⟩, Hk⟩
  sl_exec (disch := first | sl_exact h1 | sl_exact h2 | sl_exact h3 | sl_exact h4 | sl_exact h7)
  sl_step
  subst e1 e2 e3 e4 e5 e6 e7 e9 e10 e11 e12 e13 e14 e15 e16 e17
  iapply Hk
  isplitl [H1 H2 H3 H4 H5 H6 H7]
  · isplitl [H1]; · (iexists _; isplitr; swap; (iexact H1); ipureintro; rfl)
    isplitl [H2]; · (iexists _; isplitr; swap; (iexact H2); ipureintro; rfl)
    isplitl [H3]; · (iexists _; isplitr; swap; (iexact H3); ipureintro; rfl)
    isplitl [H4]; · (iexists _; isplitr; swap; (iexact H4); ipureintro; rfl)
    isplitl [H5]; · (iexists _; isplitr; swap; (iexact H5); ipureintro; rfl)
    isplitl [H6]; · (iexists _; isplitr; swap; (iexact H6); ipureintro; rfl)
    iexists _; isplitr; swap; (iexact H7); ipureintro; rfl
  isplitl [H9]; · (iexists _; isplitr; swap; (iexact H9); ipureintro; refine (View.read_writes_cons_put _ _ _ _ [] (k0_off1_eq i)).trans ?_; simp only [View.writes_nil, ld_x, ld_w1, ld_b1, ld_w2, ld_b2, ld_wm, ld_bm, ld_c2, cov_wm, cov_c2, cov_b2])
  isplitl [H10]; · (iexists _; isplitr; swap; (iexact H10); ipureintro; refine (View.read_writes_cons_put _ _ _ _ [] (k0_off2_eq i)).trans ?_; simp only [View.writes_nil, ld_x, ld_w1, ld_b1, ld_w2, ld_b2, ld_wm, ld_bm, ld_c2, cov_wm, cov_c2, cov_b2])
  isplitl [H11]; · (iexists _; isplitr; swap; (iexact H11); ipureintro; rfl)
  isplitl [H12]; · (iexists _; isplitr; swap; (iexact H12); ipureintro; rfl)
  isplitl [H13]; · (iexists _; isplitr; swap; (iexact H13); ipureintro; rfl)
  isplitl [H14]; · (iexists _; isplitr; swap; (iexact H14); ipureintro; rfl)
  isplitl [H15]; · (iexists _; isplitr; swap; (iexact H15); ipureintro; refine (View.read_writes_full (s := S16x64) _ _ _ _ _).trans ?_; simp only [ld_x, ld_w1, ld_b1, ld_w2, ld_b2, ld_wm, ld_bm, ld_c2, cov_wm, cov_c2, cov_b2])
  isplitl [H16]; · (iexists _; isplitr; swap; (iexact H16); ipureintro; refine (View.read_writes_full (s := S1x64) _ _ _ _ _).trans ?_; simp only [ld_x, ld_w1, ld_b1, ld_w2, ld_b2, ld_wm, ld_bm, ld_c2, cov_wm, cov_c2, cov_b2])
  iexists _; isplitr; swap; (iexact H17); ipureintro; rfl

set_option maxHeartbeats 4000000 in
/-- The first point: it also fixes the initial centroids and clears the sums. -/
theorem run_first (h1 : k0_cond1 i = 1#1) (h2 : isAt i 0#32) (h3 : ¬ isAt i 4#32) (h4 : ¬ k0_cond4 i = 1#1) (h7 : ¬ k0_cond7 i = 1#1)
    (E : Set ℕ) (K : PUnit → sProp 𝕄) :
    iprop(ins c arg1 arg2 arg3 arg4 arg5 arg6 arg7 x w1 b1 w2 b2 wm bm ∗ scr c arg9 arg10 arg11 arg12 arg13 arg14 arg15 arg16 arg17 s
      ∗ (iprop(ins c arg1 arg2 arg3 arg4 arg5 arg6 arg7 x w1 b1 w2 b2 wm bm
          ∗ scr c arg9 arg10 arg11 arg12 arg13 arg14 arg15 arg16 arg17
            { s with z := VecWindow.put s.z ![(i 0).val, 0, 0] S1x16x20000.size (k0_pay10 x w1 b1 w2 b2 wm bm)
                     lab := VecWindow.put s.lab ![(i 0).val, 0, 0] S1x1x20000.size (k0_pay17 (k0_pay9 x w1 b1 w2 b2 wm bm) (k0_pay12 x w1 b1 w2 b2 wm bm) (k0_pay13 x w1 b1 w2 b2 wm bm))
                     c0 := k0_pay12 x w1 b1 w2 b2 wm bm
                     c2 := k0_pay13 x w1 b1 w2 b2 wm bm
                     sums := k0_pay19 (k0_pay9 x w1 b1 w2 b2 wm bm) (k0_pay12 x w1 b1 w2 b2 wm bm) (k0_pay13 x w1 b1 w2 b2 wm bm) (k0_pay14 (F := F))
                     cnt := k0_pay20 (k0_pay9 x w1 b1 w2 b2 wm bm) (k0_pay12 x w1 b1 w2 b2 wm bm) (k0_pay13 x w1 b1 w2 b2 wm bm) (k0_pay15 (F := F)) }) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  obtain ⟨z, lab, dist, c0, c2, cent, sums, cnt, mm⟩ := s
  simp only [cc0__fused_kernel_eq_skeleton]
  unfold cc0__fused_kernel_skel ins scr
  simp only [k0_part1_eq_skeleton, k0_part2_eq_skeleton]
  unfold k0_part1_skel k0_part2_skel
  unfold owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩⟩, ⟨⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩⟩, Hk⟩
  sl_exec (disch := first | sl_exact h1 | sl_exact h2 | sl_exact h3 | sl_exact h4 | sl_exact h7)
  sl_step
  subst e1 e2 e3 e4 e5 e6 e7 e9 e10 e11 e12 e13 e14 e15 e16 e17
  iapply Hk
  isplitl [H1 H2 H3 H4 H5 H6 H7]
  · isplitl [H1]; · (iexists _; isplitr; swap; (iexact H1); ipureintro; rfl)
    isplitl [H2]; · (iexists _; isplitr; swap; (iexact H2); ipureintro; rfl)
    isplitl [H3]; · (iexists _; isplitr; swap; (iexact H3); ipureintro; rfl)
    isplitl [H4]; · (iexists _; isplitr; swap; (iexact H4); ipureintro; rfl)
    isplitl [H5]; · (iexists _; isplitr; swap; (iexact H5); ipureintro; rfl)
    isplitl [H6]; · (iexists _; isplitr; swap; (iexact H6); ipureintro; rfl)
    iexists _; isplitr; swap; (iexact H7); ipureintro; rfl
  isplitl [H9]; · (iexists _; isplitr; swap; (iexact H9); ipureintro; refine (View.read_writes_cons_put _ _ _ _ [] (k0_off1_eq i)).trans ?_; simp only [View.writes_nil, ld_x, ld_w1, ld_b1, ld_w2, ld_b2, ld_wm, ld_bm, ld_c2, cov_wm, cov_c2, cov_b2])
  isplitl [H10]; · (iexists _; isplitr; swap; (iexact H10); ipureintro; dsimp only [run_first.sl.v44, run_first.sl.v48, run_first.sl.H12_1, run_first.sl.H13_1, run_first.sl.H15_1, run_first.sl.H16_1]; refine (View.read_writes_cons_put _ _ _ _ [] (k0_off2_eq i)).trans ?_; simp only [View.writes_nil, ld_x, ld_w1, ld_b1, ld_w2, ld_b2, ld_wm, ld_bm, ld_c2, cov_wm, cov_c2, cov_b2])
  isplitl [H11]; · (iexists _; isplitr; swap; (iexact H11); ipureintro; rfl)
  isplitl [H12]; · (iexists _; isplitr; swap; (iexact H12); ipureintro; dsimp only [run_first.sl.H12_1, run_first.sl.H13_1, run_first.sl.H15_1, run_first.sl.H16_1]; refine (View.read_writes_full (s := S16x64) _ _ _ _ _).trans ?_; simp only [ld_x, ld_w1, ld_b1, ld_w2, ld_b2, ld_wm, ld_bm, ld_c2, cov_wm, cov_c2, cov_b2])
  isplitl [H13]; · (iexists _; isplitr; swap; (iexact H13); ipureintro; dsimp only [run_first.sl.H13_1, run_first.sl.H12_1, run_first.sl.H15_1, run_first.sl.H16_1]; refine (View.read_writes_full (s := S64x1) _ _ _ _ _).trans ?_; simp only [ld_x, ld_w1, ld_b1, ld_w2, ld_b2, ld_wm, ld_bm, ld_c2, cov_wm, cov_c2, cov_b2])
  isplitl [H14]; · (iexists _; isplitr; swap; (iexact H14); ipureintro; rfl)
  isplitl [H15]; · (iexists _; isplitr; swap; (iexact H15); ipureintro; dsimp only [run_first.sl.v44, run_first.sl.v48, run_first.sl.v68, run_first.sl.H12_1, run_first.sl.H13_1, run_first.sl.H15_1, run_first.sl.H16_1]; refine (View.read_writes_full (s := S16x64) _ _ _ _ _).trans ?_; simp only [ld_x, ld_w1, ld_b1, ld_w2, ld_b2, ld_wm, ld_bm, ld_c2, cov_wm, cov_c2, cov_b2])
  isplitl [H16]; · (iexists _; isplitr; swap; (iexact H16); ipureintro; dsimp only [run_first.sl.v44, run_first.sl.v48, run_first.sl.v74, run_first.sl.H12_1, run_first.sl.H13_1, run_first.sl.H15_1, run_first.sl.H16_1]; refine (View.read_writes_full (s := S1x64) _ _ _ _ _).trans ?_; simp only [ld_x, ld_w1, ld_b1, ld_w2, ld_b2, ld_wm, ld_bm, ld_c2, cov_wm, cov_c2, cov_b2])
  iexists _; isplitr; swap; (iexact H17); ipureintro; rfl

set_option maxHeartbeats 4000000 in
/-- The last point of phase A: it also divides the sums into the centres. -/
theorem run_last (h1 : k0_cond1 i = 1#1) (h2 : ¬ isAt i 0#32) (h3 : isAt i 4#32) (h4 : ¬ k0_cond4 i = 1#1) (h7 : ¬ k0_cond7 i = 1#1)
    (E : Set ℕ) (K : PUnit → sProp 𝕄) :
    iprop(ins c arg1 arg2 arg3 arg4 arg5 arg6 arg7 x w1 b1 w2 b2 wm bm ∗ scr c arg9 arg10 arg11 arg12 arg13 arg14 arg15 arg16 arg17 s
      ∗ (iprop(ins c arg1 arg2 arg3 arg4 arg5 arg6 arg7 x w1 b1 w2 b2 wm bm
          ∗ scr c arg9 arg10 arg11 arg12 arg13 arg14 arg15 arg16 arg17
            { s with z := VecWindow.put s.z ![(i 0).val, 0, 0] S1x16x20000.size (k0_pay10 x w1 b1 w2 b2 wm bm)
                     lab := VecWindow.put s.lab ![(i 0).val, 0, 0] S1x1x20000.size (k0_pay17 (k0_pay9 x w1 b1 w2 b2 wm bm) s.c0 s.c2)
                     cent := k0_pay1 (k0_pay19 (k0_pay9 x w1 b1 w2 b2 wm bm) s.c0 s.c2 s.sums) (k0_pay20 (k0_pay9 x w1 b1 w2 b2 wm bm) s.c0 s.c2 s.cnt)
                     sums := k0_pay19 (k0_pay9 x w1 b1 w2 b2 wm bm) s.c0 s.c2 s.sums
                     cnt := k0_pay20 (k0_pay9 x w1 b1 w2 b2 wm bm) s.c0 s.c2 s.cnt }) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  obtain ⟨z, lab, dist, c0, c2, cent, sums, cnt, mm⟩ := s
  simp only [cc0__fused_kernel_eq_skeleton]
  unfold cc0__fused_kernel_skel ins scr
  simp only [k0_part1_eq_skeleton, k0_part2_eq_skeleton]
  unfold k0_part1_skel k0_part2_skel
  unfold owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩⟩, ⟨⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩⟩, Hk⟩
  sl_exec (disch := first | sl_exact h1 | sl_exact h2 | sl_exact h3 | sl_exact h4 | sl_exact h7)
  sl_step
  subst e1 e2 e3 e4 e5 e6 e7 e9 e10 e11 e12 e13 e14 e15 e16 e17
  iapply Hk
  isplitl [H1 H2 H3 H4 H5 H6 H7]
  · isplitl [H1]; · (iexists _; isplitr; swap; (iexact H1); ipureintro; rfl)
    isplitl [H2]; · (iexists _; isplitr; swap; (iexact H2); ipureintro; rfl)
    isplitl [H3]; · (iexists _; isplitr; swap; (iexact H3); ipureintro; rfl)
    isplitl [H4]; · (iexists _; isplitr; swap; (iexact H4); ipureintro; rfl)
    isplitl [H5]; · (iexists _; isplitr; swap; (iexact H5); ipureintro; rfl)
    isplitl [H6]; · (iexists _; isplitr; swap; (iexact H6); ipureintro; rfl)
    iexists _; isplitr; swap; (iexact H7); ipureintro; rfl
  isplitl [H9]; · (iexists _; isplitr; swap; (iexact H9); ipureintro; refine (View.read_writes_cons_put _ _ _ _ [] (k0_off1_eq i)).trans ?_; simp only [View.writes_nil, ld_x, ld_w1, ld_b1, ld_w2, ld_b2, ld_wm, ld_bm, ld_c2, cov_wm, cov_c2, cov_b2])
  isplitl [H10]; · (iexists _; isplitr; swap; (iexact H10); ipureintro; refine (View.read_writes_cons_put _ _ _ _ [] (k0_off2_eq i)).trans ?_; simp only [View.writes_nil, ld_x, ld_w1, ld_b1, ld_w2, ld_b2, ld_wm, ld_bm, ld_c2, cov_wm, cov_c2, cov_b2])
  isplitl [H11]; · (iexists _; isplitr; swap; (iexact H11); ipureintro; rfl)
  isplitl [H12]; · (iexists _; isplitr; swap; (iexact H12); ipureintro; rfl)
  isplitl [H13]; · (iexists _; isplitr; swap; (iexact H13); ipureintro; rfl)
  isplitl [H14]; · (iexists _; isplitr; swap; (iexact H14); ipureintro; dsimp only [run_last.sl.v84, run_last.sl.v85, run_last.sl.H15_1, run_last.sl.H16_1]; refine (View.read_writes_full (s := S16x64) _ _ _ _ _).trans ?_; simp only [ld_x, ld_w1, ld_b1, ld_w2, ld_b2, ld_wm, ld_bm, ld_c2, cov_wm, cov_c2, cov_b2])
  isplitl [H15]; · (iexists _; isplitr; swap; (iexact H15); ipureintro; dsimp only [run_last.sl.H15_1, run_last.sl.H16_1]; refine (View.read_writes_full (s := S16x64) _ _ _ _ _).trans ?_; simp only [ld_x, ld_w1, ld_b1, ld_w2, ld_b2, ld_wm, ld_bm, ld_c2, cov_wm, cov_c2, cov_b2])
  isplitl [H16]; · (iexists _; isplitr; swap; (iexact H16); ipureintro; dsimp only [run_last.sl.H16_1, run_last.sl.H15_1]; refine (View.read_writes_full (s := S1x64) _ _ _ _ _).trans ?_; simp only [ld_x, ld_w1, ld_b1, ld_w2, ld_b2, ld_wm, ld_bm, ld_c2, cov_wm, cov_c2, cov_b2])
  iexists _; isplitr; swap; (iexact H17); ipureintro; rfl

end
end Cert.KernelIdeal.Hand
end
-- ==== Proof.KI.State.lean ====
/- What the scratch buffers hold between the points of the grid: the values of each phase as plain recursions over the
   blocks, and the invariant that a point establishes for the next one. -/
module

public import proofs.«01_k».proof.Proof.KI.Run

@[expose] public section

set_option maxRecDepth 16384

noncomputable section

namespace Cert.KernelIdeal.Hand

open Cert.KernelIdeal.Gen
open Idealize.ShloMosaic Idealize.ShloMosaic.TcCoe

variable {F : FTy → Type} [FloatOps F]

/-- What the kernel is given: the blocks of rows and the weights. -/
structure Inp (F : FTy → Type) [FloatOps F] where
  x : ℕ → Vec F S1x20000x128 .f32
  w1 : Vec F S128x32 .f32
  b1 : Vec F S1x32 .f32
  w2 : Vec F S32x64 .f32
  b2 : Vec F S1x64 .f32
  wm : Vec F S16x64 .f32
  bm : Vec F S16x1 .f32

section
variable (p : Inp F)

/-- Block `b`'s latents, in the two shapes the kernel holds them in. -/
def zt (b : ℕ) : Vec F S16x20000 .f32 := k0_pay9 (p.x b) p.w1 p.b1 p.w2 p.b2 p.wm p.bm
def zb (b : ℕ) : Vec F S1x16x20000 .f32 := k0_pay10 (p.x b) p.w1 p.b1 p.w2 p.b2 p.wm p.bm
/-- The initial centroids and their squared lengths. -/
def ic : Vec F S16x64 .f32 := k0_pay12 (p.x 0) p.w1 p.b1 p.w2 p.b2 p.wm p.bm
def ic2 : Vec F S64x1 .f32 := k0_pay13 (p.x 0) p.w1 p.b1 p.w2 p.b2 p.wm p.bm
/-- Block `b`'s labels. -/
def lb (b : ℕ) : Vec F S1x1x20000 .f32 := k0_pay17 (zt p b) (ic p) (ic2 p)
/-- The clusters' sums and sizes over the first `n` blocks. -/
def sumsTo : ℕ → Vec F S16x64 .f32
  | 0 => k0_pay14
  | n + 1 => k0_pay19 (zt p n) (ic p) (ic2 p) (sumsTo n)
def cntTo : ℕ → Vec F S1x64 .f32
  | 0 => k0_pay15
  | n + 1 => k0_pay20 (zt p n) (ic p) (ic2 p) (cntTo n)
/-- The cluster centres. -/
def centF : Vec F S16x64 .f32 := k0_pay1 (sumsTo p 5) (cntTo p 5)
/-- Block `j`'s distances. -/
def ds (j : ℕ) : Vec F S1x1x20000 .f32 := k0_pay3 (zb p j) (lb p j) (centF p)
/-- The lanes' extremes over the blocks up to `j`. -/
def mnTo : ℕ → Vec F S1x20000 .f32
  | 0 => k0_pay4 (zb p 0) (lb p 0) (centF p)
  | j + 1 => k0_pay6 (zb p (j + 1)) (lb p (j + 1)) (centF p) (mnTo j)
def mxTo : ℕ → Vec F S1x20000 .f32
  | 0 => k0_pay5 (zb p 0) (lb p 0) (centF p)
  | j + 1 => k0_pay7 (zb p (j + 1)) (lb p (j + 1)) (centF p) (mxTo j)
/-- The written result. -/
def outF : Vec F S5x1x20000 .f32 :=
  fun y => k0_pay8 (mnTo p 4) (mxTo p 4) (ds p (y 0).val) (lb p (y 0).val) (loc y)

/-- What the scratch buffers hold before point `n`. -/
structure Inv (n : ℕ) (s : St F) : Prop where
  z : ∀ b (hb : b < 5), b < n → slabZ s.z b hb = zb p b
  lab : ∀ b (hb : b < 5), b < n → slabL s.lab b hb = lb p b
  c0 : 0 < n → s.c0 = ic p
  c2 : 0 < n → s.c2 = ic2 p
  sums : 0 < n → s.sums = sumsTo p (min n 5)
  cnt : 0 < n → s.cnt = cntTo p (min n 5)
  cent : 5 ≤ n → s.cent = centF p
  dist : ∀ j (hj : j < 5), j + 5 < n → slabL s.dist j hj = ds p j
  mn : 5 < n → row0 s.mm = mnTo p (min n 10 - 6)
  mx : 5 < n → row1 s.mm = mxTo p (min n 10 - 6)

/-- Nothing is known before the first point. -/
theorem inv_zero (s : St F) : Inv p 0 s where
  z := fun b hb h => absurd h (Nat.not_lt_zero b)
  lab := fun b hb h => absurd h (Nat.not_lt_zero b)
  c0 := fun h => absurd h (lt_irrefl 0)
  c2 := fun h => absurd h (lt_irrefl 0)
  sums := fun h => absurd h (lt_irrefl 0)
  cnt := fun h => absurd h (lt_irrefl 0)
  cent := fun h => absurd h (by omega)
  dist := fun j hj h => absurd h (by omega)
  mn := fun h => absurd h (by omega)
  mx := fun h => absurd h (by omega)

end

/-- Putting slab `n`: that slab is the payload, every other one stays. -/
theorem slabL_put_same (x : Vec F S5x1x20000 .f32) (w : Vec F S1x1x20000 .f32) (b : ℕ) (hb : b < 5) :
    slabL (VecWindow.put x ![b, 0, 0] S1x1x20000.size w) b hb = w := VecWindow.window_put_same _ _ _ _ _
theorem slabZ_put_same (x : Vec F S5x16x20000 .f32) (w : Vec F S1x16x20000 .f32) (b : ℕ) (hb : b < 5) :
    slabZ (VecWindow.put x ![b, 0, 0] S1x16x20000.size w) b hb = w := VecWindow.window_put_same _ _ _ _ _
theorem slabL_put_ne (x : Vec F S5x1x20000 .f32) (w : Vec F S1x1x20000 .f32) (n b : ℕ) (hb : b < 5) (h : b ≠ n) :
    slabL (VecWindow.put x ![n, 0, 0] S1x1x20000.size w) b hb = slabL x b hb :=
  VecWindow.window_put_of_disjoint _ _ _ _ _ _ _ (0 : Fin 3) (by
    show b + 1 ≤ n ∨ n + 1 ≤ b; omega)
theorem slabZ_put_ne (x : Vec F S5x16x20000 .f32) (w : Vec F S1x16x20000 .f32) (n b : ℕ) (hb : b < 5) (h : b ≠ n) :
    slabZ (VecWindow.put x ![n, 0, 0] S1x16x20000.size w) b hb = slabZ x b hb :=
  VecWindow.window_put_of_disjoint _ _ _ _ _ _ _ (0 : Fin 3) (by
    show b + 1 ≤ n ∨ n + 1 ≤ b; omega)

/-- After both rows of the extremes were put. -/
theorem row0_put (x : Vec F S2x20000 .f32) (a b : Vec F S1x20000 .f32) :
    row0 (VecWindow.put (VecWindow.put x ![0, 0] S1x20000.size a) ![1, 0] S1x20000.size b) = a :=
  (VecWindow.window_put_of_disjoint _ _ _ _ _ _ _ (0 : Fin 2) (by left; show 0 + 1 ≤ 1; omega)).trans (VecWindow.window_put_same _ _ _ _ _)
theorem row1_put (x : Vec F S2x20000 .f32) (b : Vec F S1x20000 .f32) :
    row1 (VecWindow.put x ![1, 0] S1x20000.size b) = b := VecWindow.window_put_same _ _ _ _ _

variable {p : Inp F}

/-- A point of phase A after the first, given what it reads: the slabs it puts, the sums it extends. -/
theorem inv_mid {n : ℕ} {s : St F} (h : Inv p n s) (h0 : 0 < n) (h5 : n < 4) :
    Inv p (n + 1) { s with z := VecWindow.put s.z ![n, 0, 0] S1x16x20000.size (zb p n)
                           lab := VecWindow.put s.lab ![n, 0, 0] S1x1x20000.size (k0_pay17 (zt p n) s.c0 s.c2)
                           sums := k0_pay19 (zt p n) s.c0 s.c2 s.sums
                           cnt := k0_pay20 (zt p n) s.c0 s.c2 s.cnt } where
  z := fun b hb hlt => by
    by_cases e : b = n
    · subst e; exact slabZ_put_same _ _ _ _
    · exact (slabZ_put_ne _ _ _ _ _ e).trans (h.z b hb (by omega))
  lab := fun b hb hlt => by
    by_cases e : b = n
    · subst e; exact (slabL_put_same _ _ _ _).trans (by rw [h.c0 h0, h.c2 h0]; rfl)
    · exact (slabL_put_ne _ _ _ _ _ e).trans (h.lab b hb (by omega))
  c0 := fun _ => h.c0 h0
  c2 := fun _ => h.c2 h0
  sums := fun _ => by
    show k0_pay19 (zt p n) s.c0 s.c2 s.sums = _
    rw [h.c0 h0, h.c2 h0, h.sums h0, show min n 5 = n by omega, show min (n + 1) 5 = n + 1 by omega]; rfl
  cnt := fun _ => by
    show k0_pay20 (zt p n) s.c0 s.c2 s.cnt = _
    rw [h.c0 h0, h.c2 h0, h.cnt h0, show min n 5 = n by omega, show min (n + 1) 5 = n + 1 by omega]; rfl
  cent := fun hh => absurd hh (by omega)
  dist := fun j hj hh => absurd hh (by omega)
  mn := fun hh => absurd hh (by omega)
  mx := fun hh => absurd hh (by omega)

/-- The first point. -/
theorem inv_first (s : St F) :
    Inv p 1 { s with z := VecWindow.put s.z ![0, 0, 0] S1x16x20000.size (zb p 0)
                     lab := VecWindow.put s.lab ![0, 0, 0] S1x1x20000.size (k0_pay17 (zt p 0) (ic p) (ic2 p))
                     c0 := ic p
                     c2 := ic2 p
                     sums := k0_pay19 (zt p 0) (ic p) (ic2 p) k0_pay14
                     cnt := k0_pay20 (zt p 0) (ic p) (ic2 p) k0_pay15 } where
  z := fun b hb hlt => by
    obtain rfl : b = 0 := by omega
    exact slabZ_put_same _ _ _ _
  lab := fun b hb hlt => by
    obtain rfl : b = 0 := by omega
    exact slabL_put_same _ _ _ _
  c0 := fun _ => rfl
  c2 := fun _ => rfl
  sums := fun _ => rfl
  cnt := fun _ => rfl
  cent := fun hh => absurd hh (by omega)
  dist := fun j hj hh => absurd hh (by omega)
  mn := fun hh => absurd hh (by omega)
  mx := fun hh => absurd hh (by omega)

/-- The last point of phase A, which also fixes the centres. -/
theorem inv_last {s : St F} (h : Inv p 4 s) :
    Inv p 5 { s with z := VecWindow.put s.z ![4, 0, 0] S1x16x20000.size (zb p 4)
                     lab := VecWindow.put s.lab ![4, 0, 0] S1x1x20000.size (k0_pay17 (zt p 4) s.c0 s.c2)
                     sums := k0_pay19 (zt p 4) s.c0 s.c2 s.sums
                     cnt := k0_pay20 (zt p 4) s.c0 s.c2 s.cnt
                     cent := k0_pay1 (k0_pay19 (zt p 4) s.c0 s.c2 s.sums) (k0_pay20 (zt p 4) s.c0 s.c2 s.cnt) } where
  z := fun b hb hlt => by
    by_cases e : b = 4
    · subst e; exact slabZ_put_same _ _ _ _
    · exact (slabZ_put_ne _ _ _ _ _ e).trans (h.z b hb (by omega))
  lab := fun b hb hlt => by
    by_cases e : b = 4
    · subst e; exact (slabL_put_same _ _ _ _).trans (by rw [h.c0 (by omega), h.c2 (by omega)]; rfl)
    · exact (slabL_put_ne _ _ _ _ _ e).trans (h.lab b hb (by omega))
  c0 := fun _ => h.c0 (by omega)
  c2 := fun _ => h.c2 (by omega)
  sums := fun _ => by
    show k0_pay19 (zt p 4) s.c0 s.c2 s.sums = _
    rw [h.c0 (by omega), h.c2 (by omega), h.sums (by omega)]; rfl
  cnt := fun _ => by
    show k0_pay20 (zt p 4) s.c0 s.c2 s.cnt = _
    rw [h.c0 (by omega), h.c2 (by omega), h.cnt (by omega)]; rfl
  cent := fun _ => by
    show k0_pay1 (k0_pay19 (zt p 4) s.c0 s.c2 s.sums) (k0_pay20 (zt p 4) s.c0 s.c2 s.cnt) = _
    rw [h.c0 (by omega), h.c2 (by omega), h.sums (by omega), h.cnt (by omega)]; rfl
  dist := fun j hj hh => absurd hh (by omega)
  mn := fun hh => absurd hh (by omega)
  mx := fun hh => absurd hh (by omega)

/-- The first point of phase B. -/
theorem inv_b0 {s : St F} (h : Inv p 5 s) :
    Inv p 6 { s with dist := VecWindow.put s.dist ![0, 0, 0] S1x1x20000.size (k0_pay3 (slabZ s.z 0 (by omega)) (slabL s.lab 0 (by omega)) s.cent)
                     mm := VecWindow.put (VecWindow.put s.mm ![0, 0] S1x20000.size (k0_pay4 (slabZ s.z 0 (by omega)) (slabL s.lab 0 (by omega)) s.cent))
                       ![1, 0] S1x20000.size (k0_pay5 (slabZ s.z 0 (by omega)) (slabL s.lab 0 (by omega)) s.cent) } where
  z := fun b hb _ => h.z b hb hb
  lab := fun b hb _ => h.lab b hb hb
  c0 := fun _ => h.c0 (by omega)
  c2 := fun _ => h.c2 (by omega)
  sums := fun _ => h.sums (by omega)
  cnt := fun _ => h.cnt (by omega)
  cent := fun _ => h.cent (by omega)
  dist := fun j hj hh => by
    obtain rfl : j = 0 := by omega
    refine (slabL_put_same _ _ _ _).trans ?_
    rw [h.z 0 (by omega) (by omega), h.lab 0 (by omega) (by omega), h.cent (by omega)]; rfl
  mn := fun _ => by
    refine (row0_put _ _ _).trans ?_
    rw [h.z 0 (by omega) (by omega), h.lab 0 (by omega) (by omega), h.cent (by omega)]; rfl
  mx := fun _ => by
    refine (row1_put _ _).trans ?_
    rw [h.z 0 (by omega) (by omega), h.lab 0 (by omega) (by omega), h.cent (by omega)]; rfl

/-- A later point of phase B. -/
theorem inv_b1 {j : ℕ} {s : St F} (h : Inv p (j + 6) s) (hj : j + 1 < 5) :
    Inv p (j + 7) { s with dist := VecWindow.put s.dist ![j + 1, 0, 0] S1x1x20000.size (k0_pay3 (slabZ s.z (j + 1) hj) (slabL s.lab (j + 1) hj) s.cent)
                           mm := VecWindow.put (VecWindow.put s.mm ![0, 0] S1x20000.size (k0_pay6 (slabZ s.z (j + 1) hj) (slabL s.lab (j + 1) hj) s.cent (row0 s.mm)))
                             ![1, 0] S1x20000.size (k0_pay7 (slabZ s.z (j + 1) hj) (slabL s.lab (j + 1) hj) s.cent (row1 s.mm)) } where
  z := fun b hb _ => h.z b hb (by omega)
  lab := fun b hb _ => h.lab b hb (by omega)
  c0 := fun _ => h.c0 (by omega)
  c2 := fun _ => h.c2 (by omega)
  sums := fun _ => (h.sums (by omega)).trans (by rw [show min (j + 6) 5 = 5 by omega, show min (j + 7) 5 = 5 by omega])
  cnt := fun _ => (h.cnt (by omega)).trans (by rw [show min (j + 6) 5 = 5 by omega, show min (j + 7) 5 = 5 by omega])
  cent := fun _ => h.cent (by omega)
  dist := fun i hi hh => by
    by_cases e : i = j + 1
    · subst e
      refine (slabL_put_same _ _ _ _).trans ?_
      rw [h.z _ hj (by omega), h.lab _ hj (by omega), h.cent (by omega)]; rfl
    · exact (slabL_put_ne _ _ _ _ _ e).trans (h.dist i hi (by omega))
  mn := fun _ => by
    refine (row0_put _ _ _).trans ?_
    rw [h.z _ hj (by omega), h.lab _ hj (by omega), h.cent (by omega), h.mn (by omega), show min (j + 6) 10 - 6 = j by omega,
      show min (j + 7) 10 - 6 = j + 1 by omega]; rfl
  mx := fun _ => by
    refine (row1_put _ _).trans ?_
    rw [h.z _ hj (by omega), h.lab _ hj (by omega), h.cent (by omega), h.mx (by omega), show min (j + 6) 10 - 6 = j by omega,
      show min (j + 7) 10 - 6 = j + 1 by omega]; rfl

/-- The last point changes no scratch buffer, and writes the result. -/
theorem inv_end {s : St F} (h : Inv p 10 s) : Inv p 11 s where
  z := fun b hb _ => h.z b hb (by omega)
  lab := fun b hb _ => h.lab b hb (by omega)
  c0 := fun _ => h.c0 (by omega)
  c2 := fun _ => h.c2 (by omega)
  sums := fun _ => h.sums (by omega)
  cnt := fun _ => h.cnt (by omega)
  cent := fun _ => h.cent (by omega)
  dist := fun i hi hh => h.dist i hi (by omega)
  mn := fun _ => h.mn (by omega)
  mx := fun _ => h.mx (by omega)
theorem out_end {s : St F} (h : Inv p 10 s) : outOf (row0 s.mm) (row1 s.mm) s.dist s.lab = outF p := by
  funext y
  show k0_pay8 (row0 s.mm) (row1 s.mm) (slabL s.dist (y 0).val (lt5 y)) (slabL s.lab (y 0).val (lt5 y)) (loc y) = _
  rw [h.mn (by omega), h.mx (by omega), h.dist _ (lt5 y) (by have := lt5 y; omega), h.lab _ (lt5 y) (by have := lt5 y; omega)]
  rfl

end Cert.KernelIdeal.Hand

end
-- ==== Proof.KI.RunB.lean ====
/- The kernel body run once per kind of grid point, at a symbolic point: what it holds before, what it holds after.

   A point of phase A (points 0 to 4) encodes one block and accumulates its clusters, a point of phase B (5 to 9)
   measures one block against the centres, the last point writes the result. -/
module

public import proofs.«01_k».proof.Proof.Gen.KernelIdeal.Frame
public import proofs.«01_k».proof.Proof.Gen.KernelIdeal.Loops
public import proofs.«01_k».proof.Proof.KI.Run
public import Idealize.ShloMosaic.Lib.VecWindow

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

section
variable (c : Dev nD) (i : grid0.Coords)
  (arg1 : Memref sig .tc .vmem S1x20000x128 .f32) (harg1 : arg1.IsWhole) (arg2 : Memref sig .tc .vmem S128x32 .f32) (harg2 : arg2.IsWhole)
  (arg3 : Memref sig .tc .vmem S1x32 .f32) (harg3 : arg3.IsWhole) (arg4 : Memref sig .tc .vmem S32x64 .f32) (harg4 : arg4.IsWhole)
  (arg5 : Memref sig .tc .vmem S1x64 .f32) (harg5 : arg5.IsWhole) (arg6 : Memref sig .tc .vmem S16x64 .f32) (harg6 : arg6.IsWhole)
  (arg7 : Memref sig .tc .vmem S16x1 .f32) (harg7 : arg7.IsWhole) (arg8 : Memref sig .tc .vmem S5x1x20000 .f32) (harg8 : arg8.IsWhole)
  (arg9 : Memref sig .tc .vmem S5x16x20000 .f32) (harg9 : arg9.IsWhole) (arg10 : Memref sig .tc .vmem S5x1x20000 .f32) (harg10 : arg10.IsWhole)
  (arg11 : Memref sig .tc .vmem S5x1x20000 .f32) (harg11 : arg11.IsWhole) (arg12 : Memref sig .tc .vmem S16x64 .f32) (harg12 : arg12.IsWhole)
  (arg13 : Memref sig .tc .vmem S64x1 .f32) (harg13 : arg13.IsWhole) (arg14 : Memref sig .tc .vmem S16x64 .f32) (harg14 : arg14.IsWhole)
  (arg15 : Memref sig .tc .vmem S16x64 .f32) (harg15 : arg15.IsWhole) (arg16 : Memref sig .tc .vmem S1x64 .f32) (harg16 : arg16.IsWhole)
  (arg17 : Memref sig .tc .vmem S2x20000 .f32) (harg17 : arg17.IsWhole)

variable (x : Vec F S1x20000x128 .f32) (w1 : Vec F S128x32 .f32) (b1 : Vec F S1x32 .f32) (w2 : Vec F S32x64 .f32) (b2 : Vec F S1x64 .f32)
  (wm : Vec F S16x64 .f32) (bm : Vec F S16x1 .f32) (s : St F)

set_option maxHeartbeats 4000000 in
/-- The first point of phase B: it starts the running extremes. -/
theorem run_b0 (h1 : ¬ k0_cond1 i = 1#1) (h4 : k0_cond4 i = 1#1) (h7 : ¬ k0_cond7 i = 1#1) (h5 : Scalar.cmpi .ne (Scalar.extui (Scalar.cmpi .eq (Scalar.subi (BitVec.ofNat 32 (i 0).val) 5#32) 0#32) : BitVec 32) 0#32 = 1#1) (h6 : ¬ Scalar.cmpi .ne (Scalar.extui (Scalar.cmpi .sgt (Scalar.subi (BitVec.ofNat 32 (i 0).val) 5#32) 0#32) : BitVec 32) 0#32 = 1#1)
    (E : Set ℕ) (K : PUnit → sProp 𝕄) :
    iprop(ins c arg1 arg2 arg3 arg4 arg5 arg6 arg7 x w1 b1 w2 b2 wm bm ∗ scr c arg9 arg10 arg11 arg12 arg13 arg14 arg15 arg16 arg17 s
      ∗ (iprop(ins c arg1 arg2 arg3 arg4 arg5 arg6 arg7 x w1 b1 w2 b2 wm bm
          ∗ scr c arg9 arg10 arg11 arg12 arg13 arg14 arg15 arg16 arg17
            { s with dist := VecWindow.put s.dist (k0_off4 i) S1x1x20000.size (k0_pay3 (VecWindow.window s.z (k0_off3 i) S1x16x20000.size (k0_off3_inb i h4)) (VecWindow.window s.lab (k0_off4 i) S1x1x20000.size (k0_off4_inb i h4)) s.cent)
                     mm := VecWindow.put (VecWindow.put s.mm ![0, 0] S1x20000.size (k0_pay4 (VecWindow.window s.z (k0_off3 i) S1x16x20000.size (k0_off3_inb i h4)) (VecWindow.window s.lab (k0_off4 i) S1x1x20000.size (k0_off4_inb i h4)) s.cent)) ![1, 0] S1x20000.size (k0_pay5 (VecWindow.window s.z (k0_off3 i) S1x16x20000.size (k0_off3_inb i h4)) (VecWindow.window s.lab (k0_off4 i) S1x1x20000.size (k0_off4_inb i h4)) s.cent) }) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  obtain ⟨z, lab, dist, c0, c2, cent, sums, cnt, mm⟩ := s
  simp only [cc0__fused_kernel_eq_skeleton]
  unfold cc0__fused_kernel_skel ins scr
  simp only [k0_part1_eq_skeleton, k0_part2_eq_skeleton]
  unfold k0_part1_skel k0_part2_skel
  unfold owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩⟩, ⟨⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩⟩, Hk⟩
  sl_exec (disch := first | sl_exact h1 | sl_exact h4 | sl_exact h7 | sl_exact h5 | sl_exact h6)
  sl_step
  subst e1 e2 e3 e4 e5 e6 e7 e9 e10 e11 e12 e13 e14 e15 e16 e17
  iapply Hk
  isplitl [H1 H2 H3 H4 H5 H6 H7]
  · isplitl [H1]; · (iexists _; isplitr; swap; (iexact H1); ipureintro; rfl)
    isplitl [H2]; · (iexists _; isplitr; swap; (iexact H2); ipureintro; rfl)
    isplitl [H3]; · (iexists _; isplitr; swap; (iexact H3); ipureintro; rfl)
    isplitl [H4]; · (iexists _; isplitr; swap; (iexact H4); ipureintro; rfl)
    isplitl [H5]; · (iexists _; isplitr; swap; (iexact H5); ipureintro; rfl)
    isplitl [H6]; · (iexists _; isplitr; swap; (iexact H6); ipureintro; rfl)
    iexists _; isplitr; swap; (iexact H7); ipureintro; rfl
  isplitl [H9]; · (iexists _; isplitr; swap; (iexact H9); ipureintro; rfl)
  isplitl [H10]; · (iexists _; isplitr; swap; (iexact H10); ipureintro; rfl)
  isplitl [H11]; · (iexists _; isplitr; swap; (iexact H11); ipureintro; refine (View.read_writes_cons_put _ _ _ _ [] rfl).trans ?_; simp only [View.writes_nil, ld_x, ld_w1, ld_b1, ld_w2, ld_b2, ld_wm, ld_bm, ld_c2, cov_wm, cov_c2, cov_b2]; dsimp only [run_b0.sl.v13, run_b0.sl.v16]; rfl)
  isplitl [H12]; · (iexists _; isplitr; swap; (iexact H12); ipureintro; rfl)
  isplitl [H13]; · (iexists _; isplitr; swap; (iexact H13); ipureintro; rfl)
  isplitl [H14]; · (iexists _; isplitr; swap; (iexact H14); ipureintro; rfl)
  isplitl [H15]; · (iexists _; isplitr; swap; (iexact H15); ipureintro; rfl)
  isplitl [H16]; · (iexists _; isplitr; swap; (iexact H16); ipureintro; rfl)
  iexists _; isplitr; swap; (iexact H17); ipureintro; refine (View.read_writes_cons_put _ _ _ _ _ rfl).trans ?_; rw [View.read_writes_cons_put _ _ _ _ [] rfl]; simp only [View.writes_nil, ld_x, ld_w1, ld_b1, ld_w2, ld_b2, ld_wm, ld_bm, ld_c2]; dsimp only [run_b0.sl.v13, run_b0.sl.v16]; rfl

set_option maxHeartbeats 4000000 in
/-- A later point of phase B. -/
theorem run_b1 (h1 : ¬ k0_cond1 i = 1#1) (h4 : k0_cond4 i = 1#1) (h7 : ¬ k0_cond7 i = 1#1) (h5 : ¬ Scalar.cmpi .ne (Scalar.extui (Scalar.cmpi .eq (Scalar.subi (BitVec.ofNat 32 (i 0).val) 5#32) 0#32) : BitVec 32) 0#32 = 1#1) (h6 : Scalar.cmpi .ne (Scalar.extui (Scalar.cmpi .sgt (Scalar.subi (BitVec.ofNat 32 (i 0).val) 5#32) 0#32) : BitVec 32) 0#32 = 1#1)
    (E : Set ℕ) (K : PUnit → sProp 𝕄) :
    iprop(ins c arg1 arg2 arg3 arg4 arg5 arg6 arg7 x w1 b1 w2 b2 wm bm ∗ scr c arg9 arg10 arg11 arg12 arg13 arg14 arg15 arg16 arg17 s
      ∗ (iprop(ins c arg1 arg2 arg3 arg4 arg5 arg6 arg7 x w1 b1 w2 b2 wm bm
          ∗ scr c arg9 arg10 arg11 arg12 arg13 arg14 arg15 arg16 arg17
            { s with dist := VecWindow.put s.dist (k0_off4 i) S1x1x20000.size (k0_pay3 (VecWindow.window s.z (k0_off3 i) S1x16x20000.size (k0_off3_inb i h4)) (VecWindow.window s.lab (k0_off4 i) S1x1x20000.size (k0_off4_inb i h4)) s.cent)
                     mm := VecWindow.put (VecWindow.put s.mm ![0, 0] S1x20000.size (k0_pay6 (VecWindow.window s.z (k0_off3 i) S1x16x20000.size (k0_off3_inb i h4)) (VecWindow.window s.lab (k0_off4 i) S1x1x20000.size (k0_off4_inb i h4)) s.cent (row0 s.mm))) ![1, 0] S1x20000.size (k0_pay7 (VecWindow.window s.z (k0_off3 i) S1x16x20000.size (k0_off3_inb i h4)) (VecWindow.window s.lab (k0_off4 i) S1x1x20000.size (k0_off4_inb i h4)) s.cent (row1 s.mm)) }) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  obtain ⟨z, lab, dist, c0, c2, cent, sums, cnt, mm⟩ := s
  simp only [cc0__fused_kernel_eq_skeleton]
  unfold cc0__fused_kernel_skel ins scr
  simp only [k0_part1_eq_skeleton, k0_part2_eq_skeleton]
  unfold k0_part1_skel k0_part2_skel
  unfold owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩⟩, ⟨⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩⟩, Hk⟩
  sl_exec (disch := first | sl_exact h1 | sl_exact h4 | sl_exact h7 | sl_exact h5 | sl_exact h6)
  sl_step
  subst e1 e2 e3 e4 e5 e6 e7 e9 e10 e11 e12 e13 e14 e15 e16 e17
  iapply Hk
  isplitl [H1 H2 H3 H4 H5 H6 H7]
  · isplitl [H1]; · (iexists _; isplitr; swap; (iexact H1); ipureintro; rfl)
    isplitl [H2]; · (iexists _; isplitr; swap; (iexact H2); ipureintro; rfl)
    isplitl [H3]; · (iexists _; isplitr; swap; (iexact H3); ipureintro; rfl)
    isplitl [H4]; · (iexists _; isplitr; swap; (iexact H4); ipureintro; rfl)
    isplitl [H5]; · (iexists _; isplitr; swap; (iexact H5); ipureintro; rfl)
    isplitl [H6]; · (iexists _; isplitr; swap; (iexact H6); ipureintro; rfl)
    iexists _; isplitr; swap; (iexact H7); ipureintro; rfl
  isplitl [H9]; · (iexists _; isplitr; swap; (iexact H9); ipureintro; rfl)
  isplitl [H10]; · (iexists _; isplitr; swap; (iexact H10); ipureintro; rfl)
  isplitl [H11]; · (iexists _; isplitr; swap; (iexact H11); ipureintro; refine (View.read_writes_cons_put _ _ _ _ [] rfl).trans ?_; simp only [View.writes_nil, ld_x, ld_w1, ld_b1, ld_w2, ld_b2, ld_wm, ld_bm, ld_c2, cov_wm, cov_c2, cov_b2]; dsimp only [run_b1.sl.v13, run_b1.sl.v16]; rfl)
  isplitl [H12]; · (iexists _; isplitr; swap; (iexact H12); ipureintro; rfl)
  isplitl [H13]; · (iexists _; isplitr; swap; (iexact H13); ipureintro; rfl)
  isplitl [H14]; · (iexists _; isplitr; swap; (iexact H14); ipureintro; rfl)
  isplitl [H15]; · (iexists _; isplitr; swap; (iexact H15); ipureintro; rfl)
  isplitl [H16]; · (iexists _; isplitr; swap; (iexact H16); ipureintro; rfl)
  iexists _; isplitr; swap; (iexact H17); ipureintro; refine (View.read_writes_cons_put _ _ _ _ _ rfl).trans ?_; rw [View.read_writes_cons_put _ _ _ _ [] rfl]; simp only [View.writes_nil, ld_x, ld_w1, ld_b1, ld_w2, ld_b2, ld_wm, ld_bm, ld_c2]; dsimp only [run_b1.sl.v13, run_b1.sl.v16, run_b1.sl.v48]; rfl

end
end Cert.KernelIdeal.Hand
end
-- ==== Proof.KI.RunC.lean ====
/- The kernel body run once per kind of grid point, at a symbolic point: what it holds before, what it holds after.

   A point of phase A (points 0 to 4) encodes one block and accumulates its clusters, a point of phase B (5 to 9)
   measures one block against the centres, the last point writes the result. -/
module

public import proofs.«01_k».proof.Proof.Gen.KernelIdeal.Frame
public import proofs.«01_k».proof.Proof.Gen.KernelIdeal.Loops
public import proofs.«01_k».proof.Proof.KI.Run
public import Idealize.ShloMosaic.Lib.VecWindow

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The facts of the loop at the last point: the trips before `k` have written their slabs. -/
def outUpTo (v11 v14 : Vec F S1x20000 .f32) (dist lab o : Vec F S5x1x20000 .f32) (k : ℕ) : Prop :=
  ∀ y : S5x1x20000.Idx, (y 0).val < k → o y = outOf v11 v14 dist lab y

theorem outUpTo_step (v : View sig .tc .vmem S5x1x20000 .f32) (f : v.ty.Contents (Elt F)) (v11 v14 : Vec F S1x20000 .f32) (dist lab : Vec F S5x1x20000 .f32)
    (k : Fin k0_t1_loop.trips) (inb : ∀ a, k0_off5 k a + S1x1x20000.size a ≤ S5x1x20000.size a)
    (h : outUpTo v11 v14 dist lab (v.read (Elt F) f) k.val) :
    outUpTo v11 v14 dist lab (v.read (Elt F) (v.writes (Elt F) f [⟨Rect.unit (k0_off5 k) S1x1x20000.size inb,
      k0_pay8 v11 v14 (VecWindow.window dist (k0_off5 k) S1x1x20000.size inb) (VecWindow.window lab (k0_off5 k) S1x1x20000.size inb)⟩])) (k.val + 1) := by
  have hk : k.val < 5 := Nat.lt_of_lt_of_le k.isLt k0_t1_abs.2.1
  intro y hy
  by_cases hlt : (y 0).val < k.val
  · rw [View.read_writes_cons_unit_of_not_mem v f inb _ [] y (k0_off5_eq k) 0 (Or.inl hlt)]
    exact h y hlt
  · have he : k.val = (y 0).val := by omega
    have ho : k0_off5 k = ![(y 0).val, 0, 0] := by rw [k0_off5_eq k, he]
    rw [View.read_writes_cons_unit_of_mem v f inb _ [] y (loc y) ho fun a => by
      have := inSlab y a
      show (y a).val = _ + ((y a).val - _)
      omega]
    have key : ∀ (off : Fin 3 → ℕ) (inb : ∀ a, off a + S1x1x20000.size a ≤ S5x1x20000.size a) (e : off = ![(y 0).val, 0, 0]),
        k0_pay8 v11 v14 (VecWindow.window dist off S1x1x20000.size inb) (VecWindow.window lab off S1x1x20000.size inb) (loc y)
          = outOf v11 v14 dist lab y := fun off inb e => by subst e; rfl
    exact key _ inb ho

set_option warn.classDefReducibility false in
/-- The loop at the last point by its invariant. -/
@[sl_loop] def outLoop (𝒱 : Variants) (c : Dev nD) (bd : Option 𝒱.V) (E : Set ℕ) (i : grid0.Coords)
  (arg1 : Memref sig .tc .vmem S1x20000x128 .f32) (harg1 : arg1.IsWhole) (arg2 : Memref sig .tc .vmem S128x32 .f32) (harg2 : arg2.IsWhole)
  (arg3 : Memref sig .tc .vmem S1x32 .f32) (harg3 : arg3.IsWhole) (arg4 : Memref sig .tc .vmem S32x64 .f32) (harg4 : arg4.IsWhole)
  (arg5 : Memref sig .tc .vmem S1x64 .f32) (harg5 : arg5.IsWhole) (arg6 : Memref sig .tc .vmem S16x64 .f32) (harg6 : arg6.IsWhole)
  (arg7 : Memref sig .tc .vmem S16x1 .f32) (harg7 : arg7.IsWhole) (arg8 : Memref sig .tc .vmem S5x1x20000 .f32) (harg8 : arg8.IsWhole)
  (arg9 : Memref sig .tc .vmem S5x16x20000 .f32) (harg9 : arg9.IsWhole) (arg10 : Memref sig .tc .vmem S5x1x20000 .f32) (harg10 : arg10.IsWhole)
  (arg11 : Memref sig .tc .vmem S5x1x20000 .f32) (harg11 : arg11.IsWhole) (arg12 : Memref sig .tc .vmem S16x64 .f32) (harg12 : arg12.IsWhole)
  (arg13 : Memref sig .tc .vmem S64x1 .f32) (harg13 : arg13.IsWhole) (arg14 : Memref sig .tc .vmem S16x64 .f32) (harg14 : arg14.IsWhole)
  (arg15 : Memref sig .tc .vmem S16x64 .f32) (harg15 : arg15.IsWhole) (arg16 : Memref sig .tc .vmem S1x64 .f32) (harg16 : arg16.IsWhole)
  (arg17 : Memref sig .tc .vmem S2x20000 .f32) (harg17 : arg17.IsWhole)
  (k0_h7 : k0_cond7 i = 1#1) (v11 v14 : Vec F S1x20000 .f32) (X10 : BufTy.Contents (Elt F) arg10.view.ty) (X11 : BufTy.Contents (Elt F) arg11.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h7 v11 v14 where
  inv k _ := iprop((arg10.view.loc (c : Thread nD τ) ↦[arg10.view.set]{fullShare} X10) ∗ (arg11.view.loc (c : Thread nD τ) ↦[arg11.view.set]{fullShare} X11)
    ∗ (∃ f, (arg8.view.loc (c : Thread nD τ) ↦[arg8.view.set]{fullShare} f)
      ∗ ⌜outUpTo v11 v14 (arg11.view.read (Elt F) X11) (arg10.view.read (Elt F) X10) (arg8.view.read (Elt F) f) k⌝))
  step k acc := by
    have hk : k.val < 5 := Nat.lt_of_lt_of_le k.isLt k0_t1_abs.2.1
    unfold k0_t1_body
    iintro ⟨H10, H11, ⟨%f8, H8, %h8⟩⟩
    sl_exec
    sl_step
    isplitl [H10]; · iexact H10
    isplitl [H11]; · iexact H11
    iexists _; isplitl [H8]; · iexact H8
    ipureintro
    exact outUpTo_step _ _ _ _ _ _ k _ h8

section
variable (c : Dev nD) (i : grid0.Coords)
  (arg1 : Memref sig .tc .vmem S1x20000x128 .f32) (harg1 : arg1.IsWhole) (arg2 : Memref sig .tc .vmem S128x32 .f32) (harg2 : arg2.IsWhole)
  (arg3 : Memref sig .tc .vmem S1x32 .f32) (harg3 : arg3.IsWhole) (arg4 : Memref sig .tc .vmem S32x64 .f32) (harg4 : arg4.IsWhole)
  (arg5 : Memref sig .tc .vmem S1x64 .f32) (harg5 : arg5.IsWhole) (arg6 : Memref sig .tc .vmem S16x64 .f32) (harg6 : arg6.IsWhole)
  (arg7 : Memref sig .tc .vmem S16x1 .f32) (harg7 : arg7.IsWhole) (arg8 : Memref sig .tc .vmem S5x1x20000 .f32) (harg8 : arg8.IsWhole)
  (arg9 : Memref sig .tc .vmem S5x16x20000 .f32) (harg9 : arg9.IsWhole) (arg10 : Memref sig .tc .vmem S5x1x20000 .f32) (harg10 : arg10.IsWhole)
  (arg11 : Memref sig .tc .vmem S5x1x20000 .f32) (harg11 : arg11.IsWhole) (arg12 : Memref sig .tc .vmem S16x64 .f32) (harg12 : arg12.IsWhole)
  (arg13 : Memref sig .tc .vmem S64x1 .f32) (harg13 : arg13.IsWhole) (arg14 : Memref sig .tc .vmem S16x64 .f32) (harg14 : arg14.IsWhole)
  (arg15 : Memref sig .tc .vmem S16x64 .f32) (harg15 : arg15.IsWhole) (arg16 : Memref sig .tc .vmem S1x64 .f32) (harg16 : arg16.IsWhole)
  (arg17 : Memref sig .tc .vmem S2x20000 .f32) (harg17 : arg17.IsWhole)

variable (x : Vec F S1x20000x128 .f32) (w1 : Vec F S128x32 .f32) (b1 : Vec F S1x32 .f32) (w2 : Vec F S32x64 .f32) (b2 : Vec F S1x64 .f32)
  (wm : Vec F S16x64 .f32) (bm : Vec F S16x1 .f32) (s : St F)

set_option maxHeartbeats 4000000 in
/-- The last point: it writes the result. -/
theorem run_out (h1 : ¬ k0_cond1 i = 1#1) (h4 : ¬ k0_cond4 i = 1#1) (h7 : k0_cond7 i = 1#1)
    (E : Set ℕ) (K : PUnit → sProp 𝕄) :
    iprop(ins c arg1 arg2 arg3 arg4 arg5 arg6 arg7 x w1 b1 w2 b2 wm bm ∗ scr c arg9 arg10 arg11 arg12 arg13 arg14 arg15 arg16 arg17 s ∗ (∃ o8, owns (c : Thread nD τ) arg8 fullShare o8)
      ∗ (iprop(ins c arg1 arg2 arg3 arg4 arg5 arg6 arg7 x w1 b1 w2 b2 wm bm
          ∗ scr c arg9 arg10 arg11 arg12 arg13 arg14 arg15 arg16 arg17 s ∗ owns (c : Thread nD τ) arg8 fullShare (outOf (row0 s.mm) (row1 s.mm) s.dist s.lab)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  obtain ⟨z, lab, dist, c0, c2, cent, sums, cnt, mm⟩ := s
  simp only [cc0__fused_kernel_eq_skeleton]
  unfold cc0__fused_kernel_skel ins scr
  simp only [k0_part1_eq_skeleton, k0_part2_eq_skeleton]
  unfold k0_part1_skel k0_part2_skel
  unfold owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩⟩, ⟨⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩⟩, ⟨%o8, %f8, %e8, H8⟩, Hk⟩
  have hz : outUpTo (arg17.view.readAt (Elt F) (Rect.unit (s := S2x20000) ![0, 0] ![1, 20000] inb_S2x20000_S1x20000_0_0).toLoadRect f17)
      (arg17.view.readAt (Elt F) (Rect.unit (s := S2x20000) ![1, 0] ![1, 20000] inb_S2x20000_S1x20000_1_0).toLoadRect f17)
      (arg11.view.read (Elt F) f11) (arg10.view.read (Elt F) f10) (arg8.view.read (Elt F) f8) 0 := fun y hy => absurd hy (Nat.not_lt_zero _)
  sl_exec (disch := first | sl_exact h1 | sl_exact h4 | sl_exact h7)
  sl_step
  subst e1 e2 e3 e4 e5 e6 e7 e9 e10 e11 e12 e13 e14 e15 e16 e17
  iapply Hk
  isplitl [H1 H2 H3 H4 H5 H6 H7]
  · isplitl [H1]; · (iexists _; isplitr; swap; (iexact H1); ipureintro; rfl)
    isplitl [H2]; · (iexists _; isplitr; swap; (iexact H2); ipureintro; rfl)
    isplitl [H3]; · (iexists _; isplitr; swap; (iexact H3); ipureintro; rfl)
    isplitl [H4]; · (iexists _; isplitr; swap; (iexact H4); ipureintro; rfl)
    isplitl [H5]; · (iexists _; isplitr; swap; (iexact H5); ipureintro; rfl)
    isplitl [H6]; · (iexists _; isplitr; swap; (iexact H6); ipureintro; rfl)
    iexists _; isplitr; swap; (iexact H7); ipureintro; rfl
  isplitl [H9 H10 H11 H12 H13 H14 H15 H16 H17]
  · isplitl [H9]; · (iexists _; isplitr; swap; (iexact H9); ipureintro; rfl)
    isplitl [H10]; · (iexists _; isplitr; swap; (iexact H10); ipureintro; rfl)
    isplitl [H11]; · (iexists _; isplitr; swap; (iexact H11); ipureintro; rfl)
    isplitl [H12]; · (iexists _; isplitr; swap; (iexact H12); ipureintro; rfl)
    isplitl [H13]; · (iexists _; isplitr; swap; (iexact H13); ipureintro; rfl)
    isplitl [H14]; · (iexists _; isplitr; swap; (iexact H14); ipureintro; rfl)
    isplitl [H15]; · (iexists _; isplitr; swap; (iexact H15); ipureintro; rfl)
    isplitl [H16]; · (iexists _; isplitr; swap; (iexact H16); ipureintro; rfl)
    iexists _; isplitr; swap; (iexact H17); ipureintro; rfl
  iexists _; isplitr; swap; (iexact H8); ipureintro; exact funext fun y => hL3 y (lt_of_lt_of_le (lt5 y) (by decide))

end
end Cert.KernelIdeal.Hand
end
-- ==== Proof.KI.Frame.lean ====
/- The kernel's run: what every point leaves (the state invariant carried from point to point), the pipeline's proof
   data, the launch, and the frame. -/
module

public import proofs.«01_k».proof.Proof.KI.State
public import proofs.«01_k».proof.Proof.KI.RunB
public import proofs.«01_k».proof.Proof.KI.RunC
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The conditions and offsets, by the number of the point -/

theorem coord_val : ∀ t : Fin cfg0.N, (grid0.coords t 0).val = t.val :=
  (by decide +kernel : ∀ t : Fin grid0.N, (grid0.coords t 0).val = t.val)
theorem cond1_iff : ∀ t : Fin cfg0.N, k0_cond1 (grid0.coords t) = 1#1 ↔ t.val < 5 :=
  (by decide +kernel : ∀ t : Fin grid0.N, k0_cond1 (grid0.coords t) = 1#1 ↔ t.val < 5)
theorem cond4_iff : ∀ t : Fin cfg0.N, k0_cond4 (grid0.coords t) = 1#1 ↔ 5 ≤ t.val ∧ t.val < 10 :=
  (by decide +kernel : ∀ t : Fin grid0.N, k0_cond4 (grid0.coords t) = 1#1 ↔ 5 ≤ t.val ∧ t.val < 10)
theorem cond7_iff : ∀ t : Fin cfg0.N, k0_cond7 (grid0.coords t) = 1#1 ↔ t.val = 10 :=
  (by decide +kernel : ∀ t : Fin grid0.N, k0_cond7 (grid0.coords t) = 1#1 ↔ t.val = 10)
theorem isAt0_iff : ∀ t : Fin cfg0.N, isAt (grid0.coords t) 0#32 ↔ t.val = 0 :=
  (by decide +kernel : ∀ t : Fin grid0.N, isAt (grid0.coords t) 0#32 ↔ t.val = 0)
theorem isAt4_iff : ∀ t : Fin cfg0.N, isAt (grid0.coords t) 4#32 ↔ t.val = 4 :=
  (by decide +kernel : ∀ t : Fin grid0.N, isAt (grid0.coords t) 4#32 ↔ t.val = 4)
/-- Phase B's own two conditions: its first point, and its later ones. -/
abbrev atB0 (i : grid0.Coords) : Prop :=
  Scalar.cmpi .ne (Scalar.extui (Scalar.cmpi .eq (Scalar.subi (BitVec.ofNat 32 (i 0).val) 5#32) 0#32) : BitVec 32) 0#32 = 1#1
abbrev pastB0 (i : grid0.Coords) : Prop :=
  Scalar.cmpi .ne (Scalar.extui (Scalar.cmpi .sgt (Scalar.subi (BitVec.ofNat 32 (i 0).val) 5#32) 0#32) : BitVec 32) 0#32 = 1#1
theorem atB0_iff : ∀ t : Fin cfg0.N, atB0 (grid0.coords t) ↔ t.val = 5 :=
  (by decide +kernel : ∀ t : Fin grid0.N, atB0 (grid0.coords t) ↔ t.val = 5)
theorem pastB0_iff : ∀ t : Fin cfg0.N, pastB0 (grid0.coords t) ↔ 5 < t.val :=
  (by decide +kernel : ∀ t : Fin grid0.N, pastB0 (grid0.coords t) ↔ 5 < t.val)
theorem off3_0 : ∀ t : Fin cfg0.N, 5 ≤ t.val → t.val < 10 → k0_off3 (grid0.coords t) = ![t.val - 5, 0, 0] :=
  (by decide +kernel : ∀ t : Fin grid0.N, 5 ≤ t.val → t.val < 10 → k0_off3 (grid0.coords t) = ![t.val - 5, 0, 0])
theorem off4_0 : ∀ t : Fin cfg0.N, 5 ≤ t.val → t.val < 10 → k0_off4 (grid0.coords t) = ![t.val - 5, 0, 0] :=
  (by decide +kernel : ∀ t : Fin grid0.N, 5 ≤ t.val → t.val < 10 → k0_off4 (grid0.coords t) = ![t.val - 5, 0, 0])
theorem idle7 : ∀ t : Fin cfg0.N, t.val ≠ 10 → cfg0.idle 7 (grid0.coords t) = true :=
  (by decide +kernel : ∀ t : Fin cfg0.N, t.val ≠ 10 → cfg0.idle 7 (grid0.coords t) = true)
theorem live7 : ∀ t : Fin cfg0.N, t.val = 10 → cfg0.idle 7 (grid0.coords t) = false :=
  (by decide +kernel : ∀ t : Fin cfg0.N, t.val = 10 → cfg0.idle 7 (grid0.coords t) = false)
theorem noFlush7 : ∀ t : Fin cfg0.N, t.val ≠ 10 → (cfg0.win 7).flush t = false :=
  (by decide +kernel : ∀ t : Fin cfg0.N, t.val ≠ 10 → (cfg0.win 7).flush t = false)

variable (m : (ℓ : Loc nD τ sig) → Buf (Elt F) ℓ) (ρ : Dev nD → PrngReg)

/-- The point with a given number. -/
def pt (n : ℕ) : Fin cfg0.N := ⟨min n 10, by have : cfg0.N = 11 := N_0; omega⟩

/-- The kernel's inputs: the blocks its windows hold. -/
def inp (c : Dev nD) : Inp F where
  x b := iblk m c 0 (pt b)
  w1 := iblk m c 1 t0_0
  b1 := iblk m c 2 t0_0
  w2 := iblk m c 3 t0_0
  b2 := iblk m c 4 t0_0
  wm := iblk m c 5 t0_0
  bm := iblk m c 6 t0_0

theorem iblk0 (c : Dev nD) (t : Fin cfg0.N) : iblk m c 0 t = (inp m c).x t.val := by
  have h : pt t.val = t := Fin.ext (by have := t.isLt; have : cfg0.N = 11 := N_0; show min t.val 10 = t.val; omega)
  show _ = iblk m c 0 (pt t.val)
  rw [h]
theorem iblk1 (c : Dev nD) (t : Fin cfg0.N) : iblk m c 1 t = (inp m c).w1 := rfl
theorem iblk2 (c : Dev nD) (t : Fin cfg0.N) : iblk m c 2 t = (inp m c).b1 := rfl
theorem iblk3 (c : Dev nD) (t : Fin cfg0.N) : iblk m c 3 t = (inp m c).w2 := rfl
theorem iblk4 (c : Dev nD) (t : Fin cfg0.N) : iblk m c 4 t = (inp m c).b2 := rfl
theorem iblk5 (c : Dev nD) (t : Fin cfg0.N) : iblk m c 5 t = (inp m c).wm := rfl
theorem iblk6 (c : Dev nD) (t : Fin cfg0.N) : iblk m c 6 t = (inp m c).bm := rfl

/-! ## One point of the grid -/

/-- The scratch buffers and the inputs' staging buffers of a point, held. -/
def scrAt (c : Dev nD) (s : St F) : sProp 𝕄 :=
  scr c (Memref.whole cc0_scratch0) (Memref.whole cc0_scratch1) (Memref.whole cc0_scratch2) (Memref.whole cc0_scratch3) (Memref.whole cc0_scratch4)
    (Memref.whole cc0_scratch5) (Memref.whole cc0_scratch6) (Memref.whole cc0_scratch7) (Memref.whole cc0_scratch8) s
def insAt (c : Dev nD) (t : Fin cfg0.N) : sProp 𝕄 :=
  ins c (win0_0.stage (cfg0.slots t 0)) (win0_1.stage (cfg0.slots t 1)) (win0_2.stage (cfg0.slots t 2)) (win0_3.stage (cfg0.slots t 3))
    (win0_4.stage (cfg0.slots t 4)) (win0_5.stage (cfg0.slots t 5)) (win0_6.stage (cfg0.slots t 6))
    ((inp m c).x t.val) (inp m c).w1 (inp m c).b1 (inp m c).w2 (inp m c).b2 (inp m c).wm (inp m c).bm

/-- A phase-B point's windows, at the point's own slab. -/
theorem winZ {s : St F} (t : Fin cfg0.N) (b : ℕ) (hb : b < 5) (ht : t.val = b + 5) (h) :
    VecWindow.window s.z (k0_off3 (grid0.coords t)) S1x16x20000.size h = slabZ s.z b hb := by
  have e : k0_off3 (grid0.coords t) = ![b, 0, 0] := (off3_0 t (by omega) (by omega)).trans (by rw [ht, Nat.add_sub_cancel])
  generalize k0_off3 (grid0.coords t) = o at h e
  subst e; rfl
theorem winL {s : St F} (t : Fin cfg0.N) (b : ℕ) (hb : b < 5) (ht : t.val = b + 5) (h) :
    VecWindow.window s.lab (k0_off4 (grid0.coords t)) S1x1x20000.size h = slabL s.lab b hb := by
  have e : k0_off4 (grid0.coords t) = ![b, 0, 0] := (off4_0 t (by omega) (by omega)).trans (by rw [ht, Nat.add_sub_cancel])
  generalize k0_off4 (grid0.coords t) = o at h e
  subst e; rfl

set_option maxHeartbeats 4000000 in
/-- Every point but the last takes the state's invariant to the next one. -/
theorem point (c : Dev nD) (t : Fin cfg0.N) (ht : t.val < 10) (s : St F) (hs : Inv (inp m c) t.val s) (E : Set ℕ) (K : PUnit → sProp 𝕄) :
    iprop(insAt m c t ∗ scrAt c s ∗ (∀ s', iprop(⌜Inv (inp m c) (t.val + 1) s'⌝ ∗ insAt m c t ∗ scrAt c s') -∗ K ⟨⟩))
      ⊢ wp frame (wpE (defs₀ (F := F)) Variants.none c none) E (bodyAt0 t) K := by
  unfold insAt scrAt bodyAt0
  by_cases h1 : t.val < 5
  · have c1 := (cond1_iff t).mpr h1
    have c4 : ¬ k0_cond4 (grid0.coords t) = 1#1 := fun h => by have := (cond4_iff t).mp h; omega
    have c7 : ¬ k0_cond7 (grid0.coords t) = 1#1 := fun h => by have := (cond7_iff t).mp h; omega
    by_cases h2 : t.val = 0
    · have c3 : ¬ isAt (grid0.coords t) 4#32 := fun h => by have := (isAt4_iff t).mp h; omega
      iintro ⟨Hi, Hs, Hk⟩
      iapply (run_first c (grid0.coords t) _ _ _ _ _ _ _ _ _ _ _ _ _ _ _ _ _ _ _ _ _ _ _ _ _ _ _ _ _ _ _ _ _ _
        ((inp m c).x t.val) (inp m c).w1 (inp m c).b1 (inp m c).w2 (inp m c).b2 (inp m c).wm (inp m c).bm s
        c1 ((isAt0_iff t).mpr h2) c3 c4 c7 E K)
      isplitl [Hi]; · iexact Hi
      isplitl [Hs]; · iexact Hs
      iintro ⟨Hi, Hs⟩
      iapply Hk
      isplitr
      swap
      · isplitl [Hi]
        · iexact Hi
        iexact Hs
      · ipureintro
        rw [coord_val t, h2]
        exact inv_first s
    · by_cases h3 : t.val = 4
      · have c2 : ¬ isAt (grid0.coords t) 0#32 := fun h => h2 ((isAt0_iff t).mp h)
        iintro ⟨Hi, Hs, Hk⟩
        iapply (run_last c (grid0.coords t) _ _ _ _ _ _ _ _ _ _ _ _ _ _ _ _ _ _ _ _ _ _ _ _ _ _ _ _ _ _ _ _ _ _
          ((inp m c).x t.val) (inp m c).w1 (inp m c).b1 (inp m c).w2 (inp m c).b2 (inp m c).wm (inp m c).bm s
          c1 c2 ((isAt4_iff t).mpr h3) c4 c7 E K)
        isplitl [Hi]; · iexact Hi
        isplitl [Hs]; · iexact Hs
        iintro ⟨Hi, Hs⟩
        iapply Hk
        isplitr
        swap
        · isplitl [Hi]
          · iexact Hi
          iexact Hs
        · ipureintro
          rw [coord_val t]
          rw [h3] at hs ⊢
          exact inv_last hs
      · have c2 : ¬ isAt (grid0.coords t) 0#32 := fun h => h2 ((isAt0_iff t).mp h)
        have c3 : ¬ isAt (grid0.coords t) 4#32 := fun h => h3 ((isAt4_iff t).mp h)
        iintro ⟨Hi, Hs, Hk⟩
        iapply (run_mid c (grid0.coords t) _ _ _ _ _ _ _ _ _ _ _ _ _ _ _ _ _ _ _ _ _ _ _ _ _ _ _ _ _ _ _ _ _ _
          ((inp m c).x t.val) (inp m c).w1 (inp m c).b1 (inp m c).w2 (inp m c).b2 (inp m c).wm (inp m c).bm s
          c1 c2 c3 c4 c7 E K)
        isplitl [Hi]; · iexact Hi
        isplitl [Hs]; · iexact Hs
        iintro ⟨Hi, Hs⟩
        iapply Hk
        isplitr
        swap
        · isplitl [Hi]
          · iexact Hi
          iexact Hs
        · ipureintro
          rw [coord_val t]
          exact inv_mid hs (by omega) (by omega)
  · have c1 : ¬ k0_cond1 (grid0.coords t) = 1#1 := fun h => h1 ((cond1_iff t).mp h)
    have c4 := (cond4_iff t).mpr ⟨by omega, ht⟩
    have c7 : ¬ k0_cond7 (grid0.coords t) = 1#1 := fun h => by have := (cond7_iff t).mp h; omega
    have o4 : ∀ b, t.val = b + 5 → k0_off4 (grid0.coords t) = ![b, 0, 0] := fun b hb =>
      (off4_0 t (by omega) ht).trans (by rw [hb, Nat.add_sub_cancel])
    by_cases h2 : t.val = 5
    · have c6 : ¬ pastB0 (grid0.coords t) := fun h => by have := (pastB0_iff t).mp h; omega
      iintro ⟨Hi, Hs, Hk⟩
      iapply (run_b0 c (grid0.coords t) _ _ _ _ _ _ _ _ _ _ _ _ _ _ _ _ _ _ _ _ _ _ _ _ _ _ _ _ _ _ _ _ _ _
        ((inp m c).x t.val) (inp m c).w1 (inp m c).b1 (inp m c).w2 (inp m c).b2 (inp m c).wm (inp m c).bm s
        c1 c4 c7 ((atB0_iff t).mpr h2) c6 E K)
      isplitl [Hi]; · iexact Hi
      isplitl [Hs]; · iexact Hs
      iintro ⟨Hi, Hs⟩
      iapply Hk
      isplitr
      swap
      · isplitl [Hi]
        · iexact Hi
        iexact Hs
      · ipureintro
        rw [winZ t 0 (by omega) h2, winL t 0 (by omega) h2, o4 0 h2, h2]
        rw [h2] at hs
        exact inv_b0 hs
    · have c5 : ¬ atB0 (grid0.coords t) := fun h => h2 ((atB0_iff t).mp h)
      iintro ⟨Hi, Hs, Hk⟩
      iapply (run_b1 c (grid0.coords t) _ _ _ _ _ _ _ _ _ _ _ _ _ _ _ _ _ _ _ _ _ _ _ _ _ _ _ _ _ _ _ _ _ _
        ((inp m c).x t.val) (inp m c).w1 (inp m c).b1 (inp m c).w2 (inp m c).b2 (inp m c).wm (inp m c).bm s
        c1 c4 c7 c5 ((pastB0_iff t).mpr (by omega)) E K)
      isplitl [Hi]; · iexact Hi
      isplitl [Hs]; · iexact Hs
      iintro ⟨Hi, Hs⟩
      iapply Hk
      isplitr
      swap
      · isplitl [Hi]
        · iexact Hi
        iexact Hs
      · ipureintro
        obtain ⟨j, hj⟩ : ∃ j, t.val = j + 6 := ⟨t.val - 6, by omega⟩
        rw [winZ t (j + 1) (by omega) hj, winL t (j + 1) (by omega) hj, o4 (j + 1) hj, hj]
        rw [hj] at hs
        exact inv_b1 hs (by omega)

/-- The last point writes the result. -/
theorem lastPoint (c : Dev nD) (t : Fin cfg0.N) (ht : t.val = 10) (s : St F) (hs : Inv (inp m c) t.val s) (E : Set ℕ) (K : PUnit → sProp 𝕄) :
    iprop(insAt m c t ∗ scrAt c s ∗ (∃ o8, owns (c : Thread nD τ) (win0_7.stage (cfg0.slots t 7)) fullShare o8)
      ∗ (iprop(insAt m c t ∗ scrAt c s ∗ owns (c : Thread nD τ) (win0_7.stage (cfg0.slots t 7)) fullShare (outF (inp m c))) -∗ K ⟨⟩))
      ⊢ wp frame (wpE (defs₀ (F := F)) Variants.none c none) E (bodyAt0 t) K := by
  have c1 : ¬ k0_cond1 (grid0.coords t) = 1#1 := fun h => by have := (cond1_iff t).mp h; omega
  have c4 : ¬ k0_cond4 (grid0.coords t) = 1#1 := fun h => by have := (cond4_iff t).mp h; omega
  rw [ht] at hs
  rw [← out_end hs]
  unfold insAt scrAt bodyAt0
  exact run_out c (grid0.coords t) _ _ _ _ _ _ _ _ _ _ _ _ _ _ _ _ _ _ _ _ _ _ _ _ _ _ _ _ _ _ _ _ _ _
        ((inp m c).x t.val) (inp m c).w1 (inp m c).b1 (inp m c).w2 (inp m c).b2 (inp m c).wm (inp m c).bm s
        c1 c4 ((cond7_iff t).mpr ht) E K

/-! ## The pipeline's proof data -/

/-- Before point `n`: the scratch at a state the invariant holds of, the generator register at any state. -/
def PhiN (c : Dev nD) (n : ℕ) : sProp 𝕄 := iprop((∃ s, iprop(⌜Inv (inp m c) n s⌝ ∗ scrAt c s)) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outF (inp m c)
  Φ t := PhiN m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = outF (inp m c) := by dsimp only [dats]

theorem before_0 (c : Dev nD) (t : Fin cfg0.N) (d) : (dats m 0 c).before 0 t d = (inp m c).x t.val :=
  (before0_0_of m (dats m 0 c) (A_eq m c 0) (after_0 m c) t d).trans (iblk0 m c t)
theorem before_1 (c : Dev nD) (t : Fin cfg0.N) (d) : (dats m 0 c).before 1 t d = (inp m c).w1 :=
  before0_1_of m (dats m 0 c) (A_eq m c 1) (after_1 m c) t d
theorem before_2 (c : Dev nD) (t : Fin cfg0.N) (d) : (dats m 0 c).before 2 t d = (inp m c).b1 :=
  before0_2_of m (dats m 0 c) (A_eq m c 2) (after_2 m c) t d
theorem before_3 (c : Dev nD) (t : Fin cfg0.N) (d) : (dats m 0 c).before 3 t d = (inp m c).w2 :=
  before0_3_of m (dats m 0 c) (A_eq m c 3) (after_3 m c) t d
theorem before_4 (c : Dev nD) (t : Fin cfg0.N) (d) : (dats m 0 c).before 4 t d = (inp m c).b2 :=
  before0_4_of m (dats m 0 c) (A_eq m c 4) (after_4 m c) t d
theorem before_5 (c : Dev nD) (t : Fin cfg0.N) (d) : (dats m 0 c).before 5 t d = (inp m c).wm :=
  before0_5_of m (dats m 0 c) (A_eq m c 5) (after_5 m c) t d
theorem before_6 (c : Dev nD) (t : Fin cfg0.N) (d) : (dats m 0 c).before 6 t d = (inp m c).bm :=
  before0_6_of m (dats m 0 c) (A_eq m c 6) (after_6 m c) t d

/-- What an input's window is left at: its block. -/
theorem leaves_0 (c : Dev nD) (t : Fin cfg0.N) : (dats m 0 c).leavesExact 0 t = owns (c : Thread nD τ) (win0_0.stage (cfg0.slots t 0)) fullShare ((inp m c).x t.val) := by
  rw [← iblk0, ← after_0]
theorem leaves_1 (c : Dev nD) (t : Fin cfg0.N) : (dats m 0 c).leavesExact 1 t = owns (c : Thread nD τ) (win0_1.stage (cfg0.slots t 1)) fullShare (inp m c).w1 := by
  rw [← iblk1 m c t, ← after_1]
theorem leaves_2 (c : Dev nD) (t : Fin cfg0.N) : (dats m 0 c).leavesExact 2 t = owns (c : Thread nD τ) (win0_2.stage (cfg0.slots t 2)) fullShare (inp m c).b1 := by
  rw [← iblk2 m c t, ← after_2]
theorem leaves_3 (c : Dev nD) (t : Fin cfg0.N) : (dats m 0 c).leavesExact 3 t = owns (c : Thread nD τ) (win0_3.stage (cfg0.slots t 3)) fullShare (inp m c).w2 := by
  rw [← iblk3 m c t, ← after_3]
theorem leaves_4 (c : Dev nD) (t : Fin cfg0.N) : (dats m 0 c).leavesExact 4 t = owns (c : Thread nD τ) (win0_4.stage (cfg0.slots t 4)) fullShare (inp m c).b2 := by
  rw [← iblk4 m c t, ← after_4]
theorem leaves_5 (c : Dev nD) (t : Fin cfg0.N) : (dats m 0 c).leavesExact 5 t = owns (c : Thread nD τ) (win0_5.stage (cfg0.slots t 5)) fullShare (inp m c).wm := by
  rw [← iblk5 m c t, ← after_5]
theorem leaves_6 (c : Dev nD) (t : Fin cfg0.N) : (dats m 0 c).leavesExact 6 t = owns (c : Thread nD τ) (win0_6.stage (cfg0.slots t 6)) fullShare (inp m c).bm := by
  rw [← iblk6 m c t, ← after_6]
theorem leaves_7 (c : Dev nD) (t : Fin cfg0.N) (h : t.val = 10) : (dats m 0 c).leavesExact 7 t = owns (c : Thread nD τ) (win0_7.stage (cfg0.slots t 7)) fullShare (outF (inp m c)) := by
  unfold Dat.leavesExact; rw [live7 t h, after_7]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t ∗ (dats m 0 c).leavesExact 7 t)

theorem Phi_cast (c : Dev nD) (t : Fin cfg0.N) : (dats m 0 c).Φ t.castSucc = PhiN m c t.val := by dsimp only [dats, Fin.val_castSucc]
theorem Phi_succ (c : Dev nD) (t : Fin cfg0.N) : (dats m 0 c).Φ t.succ = PhiN m c (t.val + 1) := by dsimp only [dats, Fin.val_succ]

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [show (dats m 0 c).owesAt () t.succ = (dats m 0 c).owesAt () t.castSucc from rfl, Phi_cast, Phi_succ]
  simp only [before_0, before_1, before_2, before_3, before_4, before_5, before_6, leaves_0, leaves_1, leaves_2, leaves_3, leaves_4, leaves_5, leaves_6]
  have hN : t.val < 11 := lt_of_lt_of_eq t.isLt (show cfg0.N = 11 from N_0)
  unfold PhiN
  by_cases ht : t.val < 10
  · rw [Dat.leavesExact_idle (dats m 0 c) 7 t (idle7 t (by omega)) (noFlush7 t (by omega))]
    iintro ⟨⟨⟨%s, %hs, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (point m c t ht s hs Set.univ _)
    isplitl [H0 H1 H2 H3 H4 H5 H6]
    · unfold insAt ins
      isplitl [H0]; · iexact H0
      isplitl [H1]; · iexact H1
      isplitl [H2]; · iexact H2
      isplitl [H3]; · iexact H3
      isplitl [H4]; · iexact H4
      isplitl [H5]; · iexact H5
      iexact H6
    isplitl [HS]; · iexact HS
    unfold insAt ins
    iintro %s' ⟨%hs', ⟨H0, H1, H2, H3, H4, H5, H6⟩, HS⟩
    isplitl [HS Hg]
    · isplitl [HS]
      · iexists s'; isplitr
        · ipureintro; exact hs'
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · have h10 : t.val = 10 := by omega
    rw [leaves_7 m c t h10]
    iintro ⟨⟨⟨%s, %hs, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (lastPoint m c t h10 s hs Set.univ _)
    isplitl [H0 H1 H2 H3 H4 H5 H6]
    · unfold insAt ins
      isplitl [H0]; · iexact H0
      isplitl [H1]; · iexact H1
      isplitl [H2]; · iexact H2
      isplitl [H3]; · iexact H3
      isplitl [H4]; · iexact H4
      isplitl [H5]; · iexact H5
      iexact H6
    isplitl [HS]; · iexact HS
    isplitl [H7]; · (iexists _; iexact H7)
    unfold insAt ins
    iintro ⟨⟨H0, H1, H2, H3, H4, H5, H6⟩, HS, H7⟩
    isplitl [HS Hg]
    · isplitl [HS]
      · iexists s; isplitr
        · ipureintro; rw [h10] at hs ⊢; exact inv_end hs
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The launch -/

/-- What the launch hands over, with the scratch as buffers held at some contents. -/
theorem scoped_eq (c : Dev nD) :
    (Pipeline.ΦA spec0 c : sProp 𝕄)
      = iprop(iprop((∃ d, owns (c : Thread nD τ) (Memref.whole cc0_scratch0 : Memref sig .tc .vmem S5x16x20000 .f32) fullShare d)
        ∗ (∃ d, owns (c : Thread nD τ) (Memref.whole cc0_scratch1 : Memref sig .tc .vmem S5x1x20000 .f32) fullShare d)
        ∗ (∃ d, owns (c : Thread nD τ) (Memref.whole cc0_scratch2 : Memref sig .tc .vmem S5x1x20000 .f32) fullShare d)
        ∗ (∃ d, owns (c : Thread nD τ) (Memref.whole cc0_scratch3 : Memref sig .tc .vmem S16x64 .f32) fullShare d)
        ∗ (∃ d, owns (c : Thread nD τ) (Memref.whole cc0_scratch4 : Memref sig .tc .vmem S64x1 .f32) fullShare d)
        ∗ (∃ d, owns (c : Thread nD τ) (Memref.whole cc0_scratch5 : Memref sig .tc .vmem S16x64 .f32) fullShare d)
        ∗ (∃ d, owns (c : Thread nD τ) (Memref.whole cc0_scratch6 : Memref sig .tc .vmem S16x64 .f32) fullShare d)
        ∗ (∃ d, owns (c : Thread nD τ) (Memref.whole cc0_scratch7 : Memref sig .tc .vmem S1x64 .f32) fullShare d)
        ∗ (∃ d, owns (c : Thread nD τ) (Memref.whole cc0_scratch8 : Memref sig .tc .vmem S2x20000 .f32) fullShare d)) ∗ (∃ r, prngReg c r)) := by
  unfold Pipeline.ΦA; rw [scopedRest0_eq]; simp only [owns_whole]; try rfl

theorem hin (c : Dev nD) : Pipeline.ΦA spec0 c ⊢ (dats m 0 c).Φ 0 := by
  rw [show (dats m 0 c).Φ 0 = PhiN m c 0 from rfl, scoped_eq]
  unfold PhiN scrAt scr
  iintro ⟨⟨⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩, Hg⟩
  isplitr [Hg]
  · iexists (⟨d0, d1, d2, d3, d4, d5, d6, d7, d8⟩ : St F)
    isplitr
    · ipureintro; exact inv_zero _ _
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iexact Hg

theorem hout (c : Dev nD) : (dats m 0 c).Φ (Fin.last cfg0.N) ⊢ Pipeline.ΦA spec0 c := by
  rw [show (dats m 0 c).Φ (Fin.last cfg0.N) = PhiN m c cfg0.N from rfl, scoped_eq]
  unfold PhiN scrAt scr
  iintro ⟨⟨%s, %hs, H0, H1, H2, H3, H4, H5, H6, H7, H8⟩, Hg⟩
  isplitr [Hg]
  · isplitl [H0]; · (iexists _; iexact H0)
    isplitl [H1]; · (iexists _; iexact H1)
    isplitl [H2]; · (iexists _; iexact H2)
    isplitl [H3]; · (iexists _; iexact H3)
    isplitl [H4]; · (iexists _; iexact H4)
    isplitl [H5]; · (iexists _; iexact H5)
    isplitl [H6]; · (iexists _; iexact H6)
    isplitl [H7]; · (iexists _; iexact H7)
    iexists _; iexact H8
  iexact Hg

-- the launch's implicit arguments are found by unifying its conclusion with this one, inside the types of metavariables
set_option backward.isDefEq.respectTransparency.types false in
set_option maxHeartbeats 800000 in
/-- The run: every array of the pipeline and every other buffer at its final contents, and every counter at zero. -/
theorem run_main : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the argument arrays end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Hand

end
-- ==== Proof.KI.Value.lean ====
/- The idealized kernel's run: its result holds the scores of `outF`, laid out in a row. -/
module

public import proofs.«01_k».proof.Proof.KI.Frame
public import Idealize.ShloMosaic.Lib.Pipeline.ValueKit
public import Idealize.ShloMosaic.Lib.StableHlo.RunRead

@[expose] public section

set_option maxRecDepth 16384

noncomputable section

namespace Cert.KernelIdeal.Hand

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ)

/-- The last point. -/
def tLast : Fin cfg0.N := ⟨10, by decide⟩

/-- The output window's array after the run. -/
theorem arr7 (c : Dev nD) : (dats m 0 c).arrAt 7 (cfgs 0).N = outF (inp m c) := by
  refine (dats m 0 c).arrAt_eq_of_after_last 7 tLast (by decide +kernel) _ fun j => ?_
  blk_simp
  rw [after_7]

theorem v6 (c : Dev nD) : Pipeline.afterTail₀ cfgs (dats m) 0 (V0 m) [hostOps1] c main_v6
    = shapeCast S100000 (outF (inp m c) : FVec Ideal S5x1x20000 .f32) Facts₀.shapeCasts_S5x1x20000_S100000 := by
  unfold Pipeline.afterTail₀
  have h := Pipeline.withArrays_arr (cfgs 0).spec (by exact (by decide : ∀ a b, Pipeline.arrRef spec0 a = Pipeline.arrRef spec0 b → a = b)) c (V0 m c) (fun w => (dats m 0 c).arrAt w (cfgs 0).N) 7
  rw [arr7 m c] at h
  change StableHlo.after hostOps1 _ (Proc.devRef .tc main_v6) = _
  after_reads_simp
  rw [← h]
  rfl

theorem run (g : Dev nD → PrngReg) :
    θ_run (defs (F := Ideal)) (onTc (τ := τ) (main (F := Ideal))) ⟨m, fun _ => 0, g⟩ (fun r => ∀ c : Dev nD,
      r.2.mem ((c.tc : Thread nD τ).loc main_v6)
        = shapeCast S100000 (outF (inp m c) : FVec Ideal S5x1x20000 .f32) Facts₀.shapeCasts_S5x1x20000_S100000
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) := by
  run_from ((θ_run defs _ _).mono (fun _ h => h.1) (run_main m g)) & ((θ_run defs _ _).mono (fun _ h => h.1) (frame m g))
  exact v6 m c

end Cert.KernelIdeal.Hand

end
-- ==== Proof.RI.Frame.lean ====
/- The reference's frame: a program of host operations changes no argument and leaves every counter at zero. -/
module

public import proofs.«01_k».proof.Proof.Gen.ReferenceIdeal
public import proofs.«01_k».proof.Proof.Gen.KernelIdeal
public import proofs.«01_k».proof.Proof.Gen.Kernel
public import proofs.«01_k».proof.Defs
public import Idealize.ShloMosaic.Lib.Claim

@[expose] public section

set_option maxRecDepth 16384

noncomputable section

namespace Cert.ReferenceIdeal.Hand

open Idealize.ShloMosaic Idealize.ShloMosaic.TcCoe Idealize.SL.Sem

set_option maxHeartbeats 4000000 in
theorem frame : Cert.quiescent_ReferenceIdeal := by
  intro m g _
  hlo_run
  all_goals first
    | exact Idealize.ShloMosaic.sem_eq_zero_of_no_sems (sig := sig) (by decide) _
    | exact fun _ => by simp only [and_self]

end Cert.ReferenceIdeal.Hand

end
-- ==== Proof.Val.RefDefs.lean ====
/- What the reference computes, cut into functions of arrays: the latents, the squared distances, the labels, the
   cluster centers, their rows taken back by label, the distances to them, the scores. -/
module

public import proofs.«01_k».proof.Proof.Gen.ReferenceIdeal
public import Idealize.ShloMosaic.Lib.Claim
public import Idealize.ShloMosaic.Lib.Pointwise

@[expose] public section

set_option maxRecDepth 16384

noncomputable section

namespace Cert.ReferenceIdeal.Hand

open Idealize.ShloMosaic Cert.ReferenceIdeal Facts₀ Facts

variable [Facts]

/-- The rectified first layer of every row. -/
def refH1 (x : FVec Ideal S1x100000x128 .f32) (w1 : FVec Ideal S32x128 .f32) (b1 : FVec Ideal S32 .f32) :
    FVec Ideal S1x100000x32 .f32 :=
  maximumf (addf (Host.dotGeneral dot_S1x100000x128_S128x32_S1x100000x32_2_0_01_1_n_n none x
      (transpose S128x32 [1, 0] w1 transposes_S32x128_S128x32_1_0))
    (broadcastInDim S1x100000x32 ![0, 1, 2] bcast_S1x1x32_S1x100000x32_0_1_2 (broadcastInDim S1x1x32 ![2] bcast_S32_S1x1x32_2 b1)))
    (broadcastInDim S1x100000x32 ![] bcast_S_S1x100000x32 (constant (F := Ideal) S_ .f32 0x00000000#32))

/-- The rectified second layer of every row. -/
def refH2 (h : FVec Ideal S1x100000x32 .f32) (w2 : FVec Ideal S64x32 .f32) (b2 : FVec Ideal S64 .f32) :
    FVec Ideal S1x100000x64 .f32 :=
  maximumf (addf (Host.dotGeneral dot_S1x100000x32_S32x64_S1x100000x64_2_0_01_1_n_n none h
      (transpose S32x64 [1, 0] w2 transposes_S64x32_S32x64_1_0))
    (broadcastInDim S1x100000x64 ![0, 1, 2] bcast_S1x1x64_S1x100000x64_0_1_2 (broadcastInDim S1x1x64 ![2] bcast_S64_S1x1x64_2 b2)))
    (broadcastInDim S1x100000x64 ![] bcast_S_S1x100000x64 (constant (F := Ideal) S_ .f32 0x00000000#32))

/-- The latents of every row. -/
def refZ (h : FVec Ideal S1x100000x64 .f32) (wm : FVec Ideal S16x64 .f32) (bm : FVec Ideal S16 .f32) :
    FVec Ideal S1x100000x16 .f32 :=
  addf (Host.dotGeneral dot_S1x100000x64_S64x16_S1x100000x16_2_0_01_1_n_n none h
      (transpose S64x16 [1, 0] wm transposes_S16x64_S64x16_1_0))
    (broadcastInDim S1x100000x16 ![0, 1, 2] bcast_S1x1x16_S1x100000x16_0_1_2 (broadcastInDim S1x1x16 ![2] bcast_S16_S1x1x16_2 bm))

/-- The first 64 rows: the initial centroids. -/
def refC (z : FVec Ideal S100000x16 .f32) : FVec Ideal S64x16 .f32 :=
  extractStridedSlice S64x16 ![0, 0] z slices_S100000x16_S64x16_0_0

/-- The squared distance of every row to every initial centroid. -/
def refD (z : FVec Ideal S100000x16 .f32) : FVec Ideal S100000x64 .f32 :=
  addf (subf (broadcastInDim S100000x64 ![0, 1] bcast_S100000x1_S100000x64_0_1 (broadcastInDim S100000x1 ![0] bcast_S100000_S100000x1_0
      (Host.reduceAdd (mulf z z) (constant (F := Ideal) S_ .f32 0x00000000#32) reducesTo_S100000x16_S100000_d1 h_S_)))
    (mulf (broadcastInDim S100000x64 ![] bcast_S_S100000x64 (constant (F := Ideal) S_ .f32 0x40000000#32))
      (Host.dotGeneral dot_S100000x16_S16x64_S100000x64_1_0_0_1_n_n none z (transpose S16x64 [1, 0] (refC z) transposes_S64x16_S16x64_1_0))))
    (broadcastInDim S100000x64 ![0, 1] bcast_S1x64_S100000x64_0_1 (broadcastInDim S1x64 ![1] bcast_S64_S1x64_1
      (Host.reduceAdd (mulf (refC z) (refC z)) (constant (F := Ideal) S_ .f32 0x00000000#32) reducesTo_S64x16_S64_d1 h_S_)))

/-- Every row's label: the place of the first of the nearest centroids. -/
def refL (d : FVec Ideal S100000x64 .f32) : IVec S100000 32 :=
  fun j => (Host.argReduce reducer_argmin_f32_i32 d (iotaInDim S100000x64 32 1) (constant (F := Ideal) S_ .f32 0x7F800000#32)
    (constantI S_ 32 0#32) reducesTo_S100000x64_S100000_d1 h_S_ j).2

/-- The sum of each cluster's latents. -/
def refSum (z : FVec Ideal S100000x16 .f32) (lab : IVec S100000 32) : FVec Ideal S64x16 .f32 :=
  Host.scatterAdd scatter_S64x16_S100000x1_S100000x16_1_0_0_1
    (broadcastInDim S64x16 ![] bcast_S_S64x16 (constant (F := Ideal) S_ .f32 0x00000000#32))
    (broadcastInDim S100000x1 ![0] bcast_S100000_S100000x1_0 lab) z

/-- The number of each cluster's rows. -/
def refCnt (lab : IVec S100000 32) : FVec Ideal S64 .f32 :=
  Host.scatterAdd scatter_S64_S100000x1_S100000_n_0_0_1
    (broadcastInDim S64 ![] bcast_S_S64 (constant (F := Ideal) S_ .f32 0x00000000#32))
    (broadcastInDim S100000x1 ![0] bcast_S100000_S100000x1_0 lab)
    (broadcastInDim S100000 ![] bcast_S_S100000 (constant (F := Ideal) S_ .f32 0x3F800000#32))

/-- The cluster centers. -/
def refCent (z : FVec Ideal S100000x16 .f32) (lab : IVec S100000 32) : FVec Ideal S64x16 .f32 :=
  Host.divf (refSum z lab) (broadcastInDim S64x16 ![0, 1] bcast_S64x1_S64x16_0_1 (broadcastInDim S64x1 ![0] bcast_S64_S64x1_0
    (maximumf (refCnt lab) (broadcastInDim S64 ![] bcast_S_S64 (constant (F := Ideal) S_ .f32 0x3F800000#32)))))

/-- The labels as indices counted from the front. -/
def refIdx (lab : IVec S100000 32) : IVec S100000x1 32 :=
  broadcastInDim S100000x1 ![0] bcast_S100000_S100000x1_0
    (select (cmpi .slt lab (broadcastInDim S100000 ![] bcast_S_S100000 (constantI S_ 32 0#32)))
      (addi lab (broadcastInDim S100000 ![] bcast_S_S100000 (constantI S_ 32 64#32))) lab)

/-- Which indices lie in the table. -/
def refIn (ix : IVec S100000x1 32) : IVec S100000 1 :=
  Host.reduce IntOp.andi
    (andi (cmpi .sge ix (broadcastInDim S100000x1 ![] bcast_S_S100000x1 (constantI S_ 32 0#32)))
      (cmpi .sle ix (broadcastInDim S100000x1 ![0, 1] bcast_S1x1_S100000x1_0_1 (broadcastInDim S1x1 ![1] bcast_S1_S1x1_1 (constantI S1 32 63#32)))))
    (constantI S_ 1 1#1) reducesTo_S100000x1_S100000_d1 h_S_

/-- Each row's center: the table's row at the label, a fill value where the label lies outside. -/
def refTake (cent : FVec Ideal S64x16 .f32) (lab : IVec S100000 32) : FVec Ideal S100000x16 .f32 :=
  select (broadcastInDim S100000x16 ![0] bcast_S100000_S100000x16_0 (refIn (refIdx lab)))
    (Host.gather gather_S64x16_S100000x1_S100000x16_1_0_n_n_0_1_116 cent (refIdx lab))
    (broadcastInDim S100000x16 ![] bcast_S_S100000x16 (constant (F := Ideal) S_ .f32 0x7FC00000#32))

/-- Each row's mean squared difference to its center. -/
def refDist (z : FVec Ideal S1x100000x16 .f32) (cd : FVec Ideal S100000x16 .f32) : FVec Ideal S1x100000 .f32 :=
  Host.divf (Host.reduceAdd
      (mulf (subf z (broadcastInDim S1x100000x16 ![1, 2] bcast_S100000x16_S1x100000x16_1_2 cd))
        (subf z (broadcastInDim S1x100000x16 ![1, 2] bcast_S100000x16_S1x100000x16_1_2 cd)))
      (constant (F := Ideal) S_ .f32 0x00000000#32) reducesTo_S1x100000x16_S1x100000_d2 h_S_)
    (broadcastInDim S1x100000 ![] bcast_S_S1x100000 (constant (F := Ideal) S_ .f32 0x41800000#32))

/-- The least distance. -/
def refMn (d : FVec Ideal S1x100000 .f32) : FVec Ideal S1x1 .f32 :=
  broadcastInDim S1x1 ![0] bcast_S1_S1x1_0
    (Host.reduce FloatOps.minimumf d (constant (F := Ideal) S_ .f32 0x7F800000#32) reducesTo_S1x100000_S1_d1 h_S_)

/-- The greatest distance. -/
def refMx (d : FVec Ideal S1x100000 .f32) : FVec Ideal S1x1 .f32 :=
  broadcastInDim S1x1 ![0] bcast_S1_S1x1_0
    (Host.reduce FloatOps.maximumf d (constant (F := Ideal) S_ .f32 0xFF800000#32) reducesTo_S1x100000_S1_d1 h_S_)

/-- The scores: the distances scaled between the least and the greatest, plus the label. -/
def refScore (d : FVec Ideal S1x100000 .f32) (lab : IVec S100000 32) : FVec Ideal S100000 .f32 :=
  shapeCast S100000 (addf
    (mulf (Host.divf (subf d (broadcastInDim S1x100000 ![0, 1] bcast_S1x1_S1x100000_0_1 (refMn d)))
        (broadcastInDim S1x100000 ![0, 1] bcast_S1x1_S1x100000_0_1 (subf (refMx d) (refMn d))))
      (broadcastInDim S1x100000 ![] bcast_S_S1x100000 (constant (F := Ideal) S_ .f32 0x3F800000#32)))
    (broadcastInDim S1x100000 ![1] bcast_S100000_S1x100000_1 (sitofp (F := Ideal) .f32 lab))) shapeCasts_S1x100000_S100000

/-- The latents as a matrix of rows. -/
def refZ2 (z : FVec Ideal S1x100000x16 .f32) : FVec Ideal S100000x16 .f32 :=
  shapeCast S100000x16 z shapeCasts_S1x100000x16_S100000x16

/-- The labels of the rows whose latents are `z`. -/
def refLab (z : FVec Ideal S1x100000x16 .f32) : IVec S100000 32 := refL (refD (refZ2 z))

/-- Each row's distance, from the latents. -/
def refDs (z : FVec Ideal S1x100000x16 .f32) : FVec Ideal S1x100000 .f32 :=
  refDist z (refTake (refCent (refZ2 z) (refLab z)) (refLab z))

/-- The whole reference over its arguments. -/
def refOut (x : FVec Ideal S1x100000x128 .f32) (w1 : FVec Ideal S32x128 .f32) (b1 : FVec Ideal S32 .f32)
    (w2 : FVec Ideal S64x32 .f32) (b2 : FVec Ideal S64 .f32) (wm : FVec Ideal S16x64 .f32) (bm : FVec Ideal S16 .f32) :
    FVec Ideal S100000 .f32 :=
  refScore (refDs (refZ (refH2 (refH1 x w1 b1) w2 b2) wm bm)) (refLab (refZ (refH2 (refH1 x w1 b1) w2 b2) wm bm))

end Cert.ReferenceIdeal.Hand

end
-- ==== Proof.RI.Run.lean ====
/- The reference's run: its result holds `refOut` of the arguments, which stay as they were. -/
module

public import proofs.«01_k».proof.Proof.Val.RefDefs
public import Idealize.ShloMosaic.Lib.Claim

@[expose] public section

set_option maxRecDepth 16384

noncomputable section

namespace Cert.ReferenceIdeal.Hand

open Idealize.ShloMosaic Idealize.ShloMosaic.TcCoe Idealize.SL.Sem Cert.ReferenceIdeal

variable [Facts]

set_option maxHeartbeats 8000000 in
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v89)
        = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) := by
  hlo_run
  simp -implicitDefEqProofs only [StableHlo.TRef.toBuf, StableHlo.TRef.ofBuf, cast_cast, cast_eq]
  unfold refOut refDs refLab refScore refMn refMx refDist refTake refIn refIdx refCent refCnt refSum refL refD refC refZ2 refZ refH2 refH1
  rfl

end Cert.ReferenceIdeal.Hand

end
-- ==== Proof.Val.Lat.lean ====
/- The latents, read at a row and a coordinate: the same three layers of sums in the reference and in the kernel. -/
module

public import proofs.«01_k».proof.Proof.Val.RefDefs

@[expose] public section

set_option maxRecDepth 16384

noncomputable section

namespace Cert.Val

open Idealize.ShloMosaic
open Cert.ReferenceIdeal.Hand (refH1 refH2 refZ)

/-- A row's latent: three layers, the first two rectified. -/
def latent (x : Fin 128 → EReal) (w1 : Fin 32 → Fin 128 → EReal) (b1 : Fin 32 → EReal) (w2 : Fin 64 → Fin 32 → EReal)
    (b2 : Fin 64 → EReal) (wm : Fin 64 → EReal) (bm : EReal) : EReal :=
  (∑ k : Fin 64, max ((∑ j : Fin 32, max ((∑ e : Fin 128, x e * w1 j e) + b1 j) 0 * w2 k j) + b2 k) 0 * wm k) + bm

section
variable [Cert.ReferenceIdeal.Facts]
open Cert.ReferenceIdeal

theorem refH1_at (x : FVec Ideal S1x100000x128 .f32) (w1 : FVec Ideal S32x128 .f32) (b1 : FVec Ideal S32 .f32)
    (i : Fin 100000) (j : Fin 32) :
    refH1 x w1 b1 (ix3 0 i j) = max ((∑ e : Fin 128, x (ix3 0 i e) * w1 (ix2 j e)) + b1 (ix1 j)) 0 := by
  pointwise [refH1]

theorem refH2_at (h : FVec Ideal S1x100000x32 .f32) (w2 : FVec Ideal S64x32 .f32) (b2 : FVec Ideal S64 .f32)
    (i : Fin 100000) (k : Fin 64) :
    refH2 h w2 b2 (ix3 0 i k) = max ((∑ j : Fin 32, h (ix3 0 i j) * w2 (ix2 k j)) + b2 (ix1 k)) 0 := by
  pointwise [refH2]

theorem refZ_at (h : FVec Ideal S1x100000x64 .f32) (wm : FVec Ideal S16x64 .f32) (bm : FVec Ideal S16 .f32)
    (i : Fin 100000) (l : Fin 16) :
    refZ h wm bm (ix3 0 i l) = (∑ k : Fin 64, h (ix3 0 i k) * wm (ix2 l k)) + bm (ix1 l) := by
  pointwise [refZ]

end

end Cert.Val

end
-- ==== Proof.Val.Spec.lean ====
/- The clustering in extended reals: the squared distances, the one nearest centroid, and what it gives. -/
module

public import Idealize.ShloMosaic.Lib.Pointwise

@[expose] public section

noncomputable section

namespace Cert.Val

open Idealize.ShloMosaic

/-- The rows whose latents are the initial centroids. -/
def first (k : Fin 64) : Fin 100000 := ⟨k.val, by omega⟩

/-- A row's squared length. -/
def sq (Z : Fin 100000 → Fin 16 → EReal) (r : Fin 100000) : EReal := ∑ l : Fin 16, Z r l * Z r l

/-- The squared distance of row `r` to initial centroid `k`. -/
def dst (Z : Fin 100000 → Fin 16 → EReal) (r : Fin 100000) (k : Fin 64) : EReal :=
  sq Z r - ((2 : ℝ) : EReal) * (∑ l : Fin 16, Z r l * Z (first k) l) + sq Z (first k)

/-- The kernel's ranking: the squared distance without the row's own length. -/
def rank (Z : Fin 100000 → Fin 16 → EReal) (r : Fin 100000) (k : Fin 64) : EReal :=
  (∑ l : Fin 16, ((-2 : ℝ) : EReal) * Z (first k) l * Z r l) + sq Z (first k)

/-- What the precondition asks: finite squared lengths, and one centroid at the least distance. -/
def OneNearest (Z : Fin 100000 → Fin 16 → EReal) : Prop :=
  ∀ r, (∑ k : Fin 64, if dst Z r k = Finset.univ.fold min ⊤ (dst Z r) then (1 : EReal) else 0) = 1 ∧ sq Z r < ⊤

/-- A value is the fold's minimum when it is below every other. -/
theorem eq_min_iff {n : ℕ} (f : Fin n → EReal) (k : Fin n) : f k = Finset.univ.fold min ⊤ f ↔ ∀ j, f k ≤ f j := by
  constructor
  · intro h j
    exact (((Finset.le_fold_min _).1 h.le).2 j (Finset.mem_univ _))
  · intro h
    refine le_antisymm ((Finset.le_fold_min _).2 ⟨le_top, fun j _ => h j⟩) ?_
    exact ((Finset.le_fold_min _).1 le_rfl).2 k (Finset.mem_univ _)

/-- A sum of ones over one place only. -/
theorem one_place {n : ℕ} (p : Fin n → Prop) [DecidablePred p] (h : (∑ k, if p k then (1 : EReal) else 0) = 1) :
    ∃ k, ∀ j, p j ↔ j = k := by
  rw [Finset.sum_boole] at h
  have h1 : (Finset.univ.filter p).card = 1 := by exact_mod_cast h
  obtain ⟨k, hk⟩ := Finset.card_eq_one.1 h1
  refine ⟨k, fun j => ?_⟩
  have := Finset.ext_iff.1 hk j
  simpa using this

/-- Each row's label. -/
theorem exists_label {Z : Fin 100000 → Fin 16 → EReal} (h : OneNearest Z) :
    ∃ L : Fin 100000 → Fin 64, ∀ r k, dst Z r k = Finset.univ.fold min ⊤ (dst Z r) ↔ k = L r :=
  ⟨fun r => (one_place _ (h r).1).choose, fun r k => (one_place _ (h r).1).choose_spec k⟩

/-- A square is never negative. -/
theorem mul_self_nonneg' (x : EReal) : 0 ≤ x * x := by
  induction x with
  | bot => simp
  | top => simp
  | coe x => exact_mod_cast mul_self_nonneg x

/-- Rows of finite length have real latents. -/
theorem exists_real {Z : Fin 100000 → Fin 16 → EReal} (h : OneNearest Z) :
    ∃ ζ : Fin 100000 → Fin 16 → ℝ, Z = fun r l => ((ζ r l : ℝ) : EReal) := by
  refine ⟨fun r l => (Z r l).toReal, funext fun r => funext fun l => ?_⟩
  have h1 : Z r l * Z r l < ⊤ :=
    lt_of_le_of_lt (Finset.single_le_sum (f := fun l => Z r l * Z r l) (fun i _ => mul_self_nonneg' _) (Finset.mem_univ l)) (h r).2
  refine (EReal.coe_toReal ?_ ?_).symm
  · intro e; rw [e] at h1; simp at h1
  · intro e; rw [e] at h1; simp at h1

/-- On real latents: both quantities are real, and they differ by the row's own length. -/
theorem real_dst (ζ : Fin 100000 → Fin 16 → ℝ) (r : Fin 100000) (k : Fin 64) :
    dst (fun r l => ((ζ r l : ℝ) : EReal)) r k
      = (((∑ l, ζ r l * ζ r l) - 2 * (∑ l, ζ r l * ζ (first k) l) + ∑ l, ζ (first k) l * ζ (first k) l : ℝ) : EReal) := by
  simp only [dst, sq]
  push_cast
  rfl

theorem real_rank (ζ : Fin 100000 → Fin 16 → ℝ) (r : Fin 100000) (k : Fin 64) :
    rank (fun r l => ((ζ r l : ℝ) : EReal)) r k
      = (((∑ l, -2 * ζ (first k) l * ζ r l) + ∑ l, ζ (first k) l * ζ (first k) l : ℝ) : EReal) := by
  simp only [rank, sq]
  push_cast
  rfl

/-- The kernel's ranking has the same least centroid. -/
theorem rank_min {Z : Fin 100000 → Fin 16 → EReal} (h : OneNearest Z) (r : Fin 100000) (k : Fin 64) :
    rank Z r k = Finset.univ.fold min ⊤ (rank Z r) ↔ dst Z r k = Finset.univ.fold min ⊤ (dst Z r) := by
  obtain ⟨ζ, rfl⟩ := exists_real h
  rw [eq_min_iff, eq_min_iff]
  refine forall_congr' fun j => ?_
  rw [real_dst, real_dst, real_rank, real_rank, EReal.coe_le_coe_iff, EReal.coe_le_coe_iff]
  have e : ∀ k : Fin 64, (∑ l, -2 * ζ (first k) l * ζ r l) = -2 * ∑ l, ζ r l * ζ (first k) l := fun k => by
    rw [Finset.mul_sum]
    exact Finset.sum_congr rfl fun l _ => by ring
  rw [e, e]
  constructor <;> intro h <;> linarith

/-- Off the label the distance is strictly greater. -/
theorem label_lt {Z : Fin 100000 → Fin 16 → EReal} {L : Fin 100000 → Fin 64}
    (hL : ∀ r k, dst Z r k = Finset.univ.fold min ⊤ (dst Z r) ↔ k = L r) (r : Fin 100000) (k : Fin 64) (hk : k ≠ L r) :
    dst Z r (L r) < dst Z r k := by
  have h1 := (eq_min_iff _ _).1 ((hL r (L r)).2 rfl)
  refine lt_of_le_of_ne (h1 k) fun e => hk ((hL r k).1 ?_)
  rw [← e]; exact (hL r (L r)).2 rfl

/-- A real distance is below the top. -/
theorem dst_lt_top {Z : Fin 100000 → Fin 16 → EReal} (h : OneNearest Z) (r : Fin 100000) (k : Fin 64) : dst Z r k < ⊤ := by
  obtain ⟨ζ, rfl⟩ := exists_real h
  rw [real_dst]; exact EReal.coe_lt_top _

/-- The least of the marked positions, where one is marked. -/
theorem min_marked (f : Fin 64 → EReal) (t : EReal) (k : Fin 64) (ht : f k ≤ t) :
    Finset.univ.fold min ⊤ (fun j : Fin 64 => if j = k then f j else t) = f k := by
  symm
  have h := (eq_min_iff (fun j : Fin 64 => if j = k then f j else t) k).2 (fun j => by
    simp only [if_true]; split
    · next e => rw [e]
    · exact ht)
  simpa using h

/-- A marked sum is the marked place's value. -/
theorem sum_marked (f : Fin 64 → EReal) (k : Fin 64) : (∑ j, f j * (if j = k then (1 : EReal) else 0)) = f k := by
  simp

/-- Block `b`'s row `i`. -/
def row (b : Fin 5) (i : Fin 20000) : Fin 100000 := ⟨20000 * b.val + i.val, by omega⟩

/-- Every row is in a block. -/
theorem row_surj (r : Fin 100000) : ∃ b i, r = row b i :=
  ⟨⟨r.val / 20000, by omega⟩, ⟨r.val % 20000, by omega⟩, Fin.ext (by simp only [row]; omega)⟩

/-- A sum over all rows is the sum over the blocks of the sums over their rows. -/
theorem sum_rows (f : Fin 100000 → EReal) : ∑ r, f r = ∑ b : Fin 5, ∑ i : Fin 20000, f (row b i) := by
  rw [← Fintype.sum_prod_type']
  refine (Fintype.sum_equiv (finProdFinEquiv (m := 5) (n := 20000)) _ _ fun x => ?_).symm
  exact congrArg f (Fin.ext (by simp only [row, finProdFinEquiv]; exact Nat.add_comm _ _))

/-- The least over all rows is the least over the blocks' lanes. -/
theorem min_rows (f : Fin 100000 → EReal) (g : Fin 20000 → EReal) (h : ∀ i c, c ≤ g i ↔ ∀ b, c ≤ f (row b i)) :
    Finset.univ.fold min ⊤ g = Finset.univ.fold min ⊤ f := by
  refine eq_of_forall_le_iff fun c => ?_
  rw [Finset.le_fold_min, Finset.le_fold_min]
  refine and_congr_right fun _ => ⟨fun hg r _ => ?_, fun hf i _ => (h i c).2 fun b => hf _ (Finset.mem_univ _)⟩
  obtain ⟨b, i, rfl⟩ := row_surj r
  exact (h i c).1 (hg i (Finset.mem_univ _)) b

/-- The greatest likewise. -/
theorem max_rows (f : Fin 100000 → EReal) (g : Fin 20000 → EReal) (h : ∀ i c, g i ≤ c ↔ ∀ b, f (row b i) ≤ c) :
    Finset.univ.fold max ⊥ g = Finset.univ.fold max ⊥ f := by
  refine eq_of_forall_ge_iff fun c => ?_
  rw [Finset.fold_max_le, Finset.fold_max_le]
  refine and_congr_right fun _ => ⟨fun hg r _ => ?_, fun hf i _ => (h i c).2 fun b => hf _ (Finset.mem_univ _)⟩
  obtain ⟨b, i, rfl⟩ := row_surj r
  exact (h i c).1 (hg i (Finset.mem_univ _)) b

/-- A cluster's center: the sum of its rows over their number, the number at least one. -/
def cen (Z : Fin 100000 → Fin 16 → EReal) (L : Fin 100000 → Fin 64) (k : Fin 64) (l : Fin 16) : EReal :=
  Ideal.div (∑ r, if L r = k then Z r l else 0) (max (∑ r, if L r = k then (1 : EReal) else 0) 1)

/-- A row's mean squared difference to its cluster's center. -/
def mse (Z : Fin 100000 → Fin 16 → EReal) (L : Fin 100000 → Fin 64) (r : Fin 100000) : EReal :=
  (∑ l : Fin 16, (Z r l - cen Z L (L r) l) * (Z r l - cen Z L (L r) l)) * ((1 / 16 : ℝ) : EReal)

/-- A row's score. -/
def score (Z : Fin 100000 → Fin 16 → EReal) (L : Fin 100000 → Fin 64) (r : Fin 100000) : EReal :=
  Ideal.div (mse Z L r - Finset.univ.fold min ⊤ (mse Z L)) (Finset.univ.fold max ⊥ (mse Z L) - Finset.univ.fold min ⊤ (mse Z L))
    + (((L r).val : ℝ) : EReal)

/-! The literals of both programs. -/
theorem lit_two : Ideal.ofBits .f32 0x40000000#32 = ((2 : ℝ) : EReal) := by
  simp [Ideal.ofBits, Ideal.ieee, -EReal.coe_mul]; norm_num
theorem lit_neg_two : Ideal.ofBits .f32 0xC0000000#32 = ((-2 : ℝ) : EReal) := by
  simp [Ideal.ofBits, Ideal.ieee, -EReal.coe_mul, -EReal.coe_neg]; norm_num
theorem lit_sixteen : Ideal.ofBits .f32 0x41800000#32 = ((16 : ℝ) : EReal) := by
  simp [Ideal.ofBits, Ideal.ieee, -EReal.coe_mul]; norm_num
theorem lit_sixteenth : Ideal.ofBits .f32 0x3D800000#32 = ((1 / 16 : ℝ) : EReal) := by
  simp [Ideal.ofBits, Ideal.ieee, -EReal.coe_mul]; norm_num
theorem lit_sixtyfour : Ideal.ofBits .f32 0x42800000#32 = ((64 : ℝ) : EReal) := by
  simp [Ideal.ofBits, Ideal.ieee, -EReal.coe_mul]; norm_num
theorem lit_top : Ideal.ofBits .f32 0x7F800000#32 = ⊤ := by simp [Ideal.ofBits, Ideal.ieee]
theorem lit_bot : Ideal.ofBits .f32 0xFF800000#32 = ⊥ := by simp [Ideal.ofBits, Ideal.ieee]

end Cert.Val

end
-- ==== Proof.Val.PreAt.lean ====
/- The precondition read: finite squared lengths, one nearest centroid. -/
module

public import proofs.«01_k».proof.Pre_one_nearest_centroid
public import proofs.«01_k».proof.Proof.Val.Lat
public import proofs.«01_k».proof.Proof.Val.Spec

@[expose] public section

set_option maxRecDepth 16384

noncomputable section

namespace Cert.Val

open Idealize.ShloMosaic Cert.Pre_one_nearest_centroid Facts

variable [Facts]

/-- The latents the precondition speaks of. -/
def preZ (x : FVec Ideal S1x100000x128 .f32) (w1 : FVec Ideal S32x128 .f32) (b1 : FVec Ideal S32 .f32)
    (w2 : FVec Ideal S64x32 .f32) (b2 : FVec Ideal S64 .f32) (wm : FVec Ideal S16x64 .f32) (bm : FVec Ideal S16 .f32) :
    FVec Ideal S1x100000x16 .f32 :=
  addf (Host.dotGeneral dot_S1x100000x64_S64x16_S1x100000x16_2_0_01_1_n_n none
    (fn_relu_0 (addf (Host.dotGeneral dot_S1x100000x32_S32x64_S1x100000x64_2_0_01_1_n_n none
      (fn_relu (addf (Host.dotGeneral dot_S1x100000x128_S128x32_S1x100000x32_2_0_01_1_n_n none x
          (transpose S128x32 [1, 0] w1 transposes_S32x128_S128x32_1_0))
        (broadcastInDim S1x100000x32 ![0, 1, 2] bcast_S1x1x32_S1x100000x32_0_1_2 (broadcastInDim S1x1x32 ![2] bcast_S32_S1x1x32_2 b1))))
      (transpose S32x64 [1, 0] w2 transposes_S64x32_S32x64_1_0))
      (broadcastInDim S1x100000x64 ![0, 1, 2] bcast_S1x1x64_S1x100000x64_0_1_2 (broadcastInDim S1x1x64 ![2] bcast_S64_S1x1x64_2 b2))))
    (transpose S64x16 [1, 0] wm transposes_S16x64_S64x16_1_0))
    (broadcastInDim S1x100000x16 ![0, 1, 2] bcast_S1x1x16_S1x100000x16_0_1_2 (broadcastInDim S1x1x16 ![2] bcast_S16_S1x1x16_2 bm))

/-- The precondition's squared distances. -/
def preD (z : FVec Ideal S100000x16 .f32) (a : FVec Ideal S100000x1 .f32) : FVec Ideal S100000x64 .f32 :=
  addf (subf (broadcastInDim S100000x64 ![0, 1] bcast_S100000x1_S100000x64_0_1 a)
    (mulf (broadcastInDim S100000x64 ![] bcast_S_S100000x64 (constant (F := Ideal) S_ .f32 0x40000000#32))
      (Host.dotGeneral dot_S100000x16_S16x64_S100000x64_1_0_0_1_n_n none z
        (transpose S16x64 [1, 0] (extractStridedSlice S64x16 ![0, 0] z slices_S100000x16_S64x16_0_0) transposes_S64x16_S16x64_1_0))))
    (broadcastInDim S100000x64 ![0, 1] bcast_S1x64_S100000x64_0_1 (broadcastInDim S1x64 ![1] bcast_S64_S1x64_1
      (Host.reduceAdd (mulf (extractStridedSlice S64x16 ![0, 0] z slices_S100000x16_S64x16_0_0) (extractStridedSlice S64x16 ![0, 0] z slices_S100000x16_S64x16_0_0))
        (constant (F := Ideal) S_ .f32 0x00000000#32) reducesTo_S64x16_S64_d1 h_S_)))

/-- The precondition's squared lengths. -/
def preA (z : FVec Ideal S100000x16 .f32) : FVec Ideal S100000x1 .f32 :=
  broadcastInDim S100000x1 ![0] bcast_S100000_S100000x1_0
    (Host.reduceAdd (mulf z z) (constant (F := Ideal) S_ .f32 0x00000000#32) reducesTo_S100000x16_S100000_d1 h_S_)

/-- How many centroids are at the least distance. -/
def preN (d : FVec Ideal S100000x64 .f32) : FVec Ideal S100000 .f32 :=
  Host.reduceAdd (uitofp (F := Ideal) .f32 (cmpf .oeq d (broadcastInDim S100000x64 ![0, 1] bcast_S100000x1_S100000x64_0_1
      (broadcastInDim S100000x1 ![0] bcast_S100000_S100000x1_0
        (Host.reduce FloatOps.minimumf d (constant (F := Ideal) S_ .f32 0x7F800000#32) reducesTo_S100000x64_S100000_d1 h_S_)))))
    (constant (F := Ideal) S_ .f32 0x00000000#32) reducesTo_S100000x64_S100000_d1 h_S_

/-- What the precondition asks, from the counts and the squared lengths. -/
def preOut (n : FVec Ideal S100000 .f32) (a : FVec Ideal S100000x1 .f32) : IVec S100000 1 :=
  andi (cmpf .oeq n (broadcastInDim S100000 ![] bcast_S_S100000 (constant (F := Ideal) S_ .f32 0x3F800000#32)))
    (cmpf .olt (shapeCast S100000 a shapeCasts_S100000x1_S100000)
      (broadcastInDim S100000 ![] bcast_S_S100000 (constant (F := Ideal) S_ .f32 0x7F800000#32)))

/-- A condition counted is one or zero. -/
theorem count_bool (p : Prop) [Decidable p] :
    FloatOps.uitofp (F := Ideal) .f32 (BitVec.ofBool (decide p)) = if p then (1 : EReal) else 0 := by
  show (((BitVec.ofBool (decide p)).toNat : ℝ) : EReal) = _
  by_cases h : p <;> simp [h]

theorem preA_at (z : FVec Ideal S100000x16 .f32) (r : Fin 100000) : preA z (ix2 r 0) = sq (fun r l => z (ix2 r l)) r := by
  pointwise [preA]
  rfl

theorem preD_at (z : FVec Ideal S100000x16 .f32) (a : FVec Ideal S100000x1 .f32) (r : Fin 100000) (k : Fin 64)
    (ha : a (ix2 r 0) = sq (fun r l => z (ix2 r l)) r) :
    preD z a (ix2 r k) = dst (fun r l => z (ix2 r l)) r k := by
  pointwise [preD]
  rw [lit_two, ha]
  rfl

theorem preN_at (d : FVec Ideal S100000x64 .f32) (r : Fin 100000) :
    preN d (ix1 r) = ∑ k : Fin 64, if (d (ix2 r k) : EReal) = Finset.univ.fold min ⊤ (fun k : Fin 64 => (d (ix2 r k) : EReal)) then (1 : EReal) else 0 := by
  pointwise [preN]
  rw [lit_top]
  exact Finset.sum_congr rfl fun k _ => count_bool _

theorem preOut_at (n : FVec Ideal S100000 .f32) (a : FVec Ideal S100000x1 .f32) (r : Fin 100000) (h : preOut n a (ix1 r) = 1#1) :
    n (ix1 r) = (1 : EReal) ∧ a (ix2 r 0) < (⊤ : EReal) := by
  revert h
  pointwise [preOut]
  rw [lit_top]
  intro h
  by_cases h1 : n (ix1 r) = (1 : EReal)
  · by_cases h2 : a (ix2 r 0) < (⊤ : EReal)
    · exact ⟨h1, h2⟩
    · simp [h2, IntOp.andi] at h
  · simp [h1, IntOp.andi] at h

theorem preZ_at (x : FVec Ideal S1x100000x128 .f32) (w1 : FVec Ideal S32x128 .f32) (b1 : FVec Ideal S32 .f32)
    (w2 : FVec Ideal S64x32 .f32) (b2 : FVec Ideal S64 .f32) (wm : FVec Ideal S16x64 .f32) (bm : FVec Ideal S16 .f32)
    (i : Fin 100000) (l : Fin 16) :
    preZ x w1 b1 w2 b2 wm bm (ix3 0 i l) = latent (fun e => x (ix3 0 i e)) (fun j e => w1 (ix2 j e)) (fun j => b1 (ix1 j))
      (fun k j => w2 (ix2 k j)) (fun k => b2 (ix1 k)) (fun k => wm (ix2 l k)) (bm (ix1 l)) := by
  unfold latent
  pointwise [preZ, fn_relu, fn_relu_0]

/-- The precondition, in these parts. -/
theorem pre_parts (x : FVec Ideal S1x100000x128 .f32) (w1 : FVec Ideal S32x128 .f32) (b1 : FVec Ideal S32 .f32)
    (w2 : FVec Ideal S64x32 .f32) (b2 : FVec Ideal S64 .f32) (wm : FVec Ideal S16x64 .f32) (bm : FVec Ideal S16 .f32)
    (a7 : FVec Ideal S16x64 .f32) (a8 : FVec Ideal S16 .f32) (a9 : FVec Ideal S32x16 .f32) (a10 : FVec Ideal S32 .f32)
    (a11 : FVec Ideal S128x32 .f32) (a12 : FVec Ideal S128 .f32) (a13 a14 a15 : IVec S_ 32) :
    fn (F := Ideal) x w1 b1 w2 b2 wm bm a7 a8 a9 a10 a11 a12 a13 a14 a15
      = preOut (preN (preD (shapeCast S100000x16 (preZ x w1 b1 w2 b2 wm bm) shapeCasts_S1x100000x16_S100000x16)
          (preA (shapeCast S100000x16 (preZ x w1 b1 w2 b2 wm bm) shapeCasts_S1x100000x16_S100000x16))))
        (preA (shapeCast S100000x16 (preZ x w1 b1 w2 b2 wm bm) shapeCasts_S1x100000x16_S100000x16)) := by
  unfold fn fn_part1 fn_part2 preOut preN preD preA preZ
  rfl

theorem castZ_at (z : FVec Ideal S1x100000x16 .f32) (r : Fin 100000) (l : Fin 16) :
    shapeCast S100000x16 z shapeCasts_S1x100000x16_S100000x16 (ix2 r l) = z (ix3 0 r l) := by
  pointwise []

/-- What the precondition gives. -/
theorem pre_nearest (x : FVec Ideal S1x100000x128 .f32) (w1 : FVec Ideal S32x128 .f32) (b1 : FVec Ideal S32 .f32)
    (w2 : FVec Ideal S64x32 .f32) (b2 : FVec Ideal S64 .f32) (wm : FVec Ideal S16x64 .f32) (bm : FVec Ideal S16 .f32)
    (a7 : FVec Ideal S16x64 .f32) (a8 : FVec Ideal S16 .f32) (a9 : FVec Ideal S32x16 .f32) (a10 : FVec Ideal S32 .f32)
    (a11 : FVec Ideal S128x32 .f32) (a12 : FVec Ideal S128 .f32) (a13 a14 a15 : IVec S_ 32)
    (h : fn (F := Ideal) x w1 b1 w2 b2 wm bm a7 a8 a9 a10 a11 a12 a13 a14 a15 = fun _ => 1#1) :
    OneNearest (fun i l => latent (fun e => x (ix3 0 i e)) (fun j e => w1 (ix2 j e)) (fun j => b1 (ix1 j))
      (fun k j => w2 (ix2 k j)) (fun k => b2 (ix1 k)) (fun k => wm (ix2 l k)) (bm (ix1 l))) := by
  rw [pre_parts] at h
  have e : (fun (i : Fin 100000) (l : Fin 16) => (shapeCast S100000x16 (preZ x w1 b1 w2 b2 wm bm) shapeCasts_S1x100000x16_S100000x16 (ix2 i l) : EReal))
      = fun i l => latent (fun e => x (ix3 0 i e)) (fun j e => w1 (ix2 j e)) (fun j => b1 (ix1 j))
        (fun k j => w2 (ix2 k j)) (fun k => b2 (ix1 k)) (fun k => wm (ix2 l k)) (bm (ix1 l)) :=
    funext fun i => funext fun l => (castZ_at _ i l).trans (preZ_at x w1 b1 w2 b2 wm bm i l)
  rw [← e]
  generalize shapeCast S100000x16 (preZ x w1 b1 w2 b2 wm bm) shapeCasts_S1x100000x16_S100000x16 = z at h
  intro r
  obtain ⟨h1, h2⟩ := preOut_at _ _ r (congrFun h (ix1 r))
  rw [preN_at] at h1
  rw [preA_at] at h2
  refine ⟨?_, h2⟩
  simp only [preD_at z _ r _ (preA_at z r)] at h1
  exact h1

end Cert.Val

end
-- ==== Proof.Val.KerAt.lean ====
/- The kernel's payloads, read at an index. -/
module

public import proofs.«01_k».proof.Proof.KI.State
public import proofs.«01_k».proof.Proof.Val.Spec

@[expose] public section

set_option maxRecDepth 16384

noncomputable section

namespace Cert.Val

open Idealize.ShloMosaic Cert.KernelIdeal Cert.KernelIdeal.Gen

/-! Words as numbers. -/

/-- Two positions' words differ where the positions do. -/
theorem eq_words_ne : ∀ k j : Fin 64, j ≠ k → IntOp.cmpi .eq (BitVec.ofNat 32 k.val) (BitVec.ofNat 32 j.val) = 0#1 := by decide

/-- A position's word is its number. -/
theorem num_word (k : Fin 64) : FloatOps.sitofp (F := Ideal) .f32 (BitVec.ofNat 32 k.val) = ((k.val : ℝ) : EReal) := by
  have h : ∀ k : Fin 64, (BitVec.ofNat 32 k.val).toInt = (k.val : ℤ) := by decide
  show (((BitVec.ofNat 32 k.val).toInt : ℝ) : EReal) = _
  rw [h]
  norm_cast

/-- A mark is one or zero. -/
theorem num_bool (p : Prop) [Decidable p] :
    FloatOps.sitofp (F := Ideal) .f32 (BitVec.setWidth 32 (BitVec.ofBool (decide p))) = if p then (1 : EReal) else 0 := by
  show (((BitVec.setWidth 32 (BitVec.ofBool (decide p))).toInt : ℝ) : EReal) = _
  by_cases h : p <;> simp [h]

theorem select_bool {α : Type} (p : Prop) [Decidable p] (a b : α) :
    Scalar.select (BitVec.ofBool (decide p)) a b = if p then a else b := by
  by_cases h : p <;> simp [h, Scalar.select]

theorem pay9_at (x : FVec Ideal S1x20000x128 .f32) (w1 : FVec Ideal S128x32 .f32) (b1 : FVec Ideal S1x32 .f32)
    (w2 : FVec Ideal S32x64 .f32) (b2 : FVec Ideal S1x64 .f32) (wm : FVec Ideal S16x64 .f32) (bm : FVec Ideal S16x1 .f32)
    (l : Fin 16) (i : Fin 20000) :
    k0_pay9 (F := Ideal) x w1 b1 w2 b2 wm bm (ix2 l i)
      = (∑ k : Fin 64, wm (ix2 l k) * max ((∑ j : Fin 32, max ((∑ e : Fin 128, x (ix3 0 i e) * w1 (ix2 e j)) + b1 (ix2 0 j)) 0 * w2 (ix2 j k))
          + b2 (ix2 0 k)) 0) + bm (ix2 l 0) := by
  pointwise [k0_pay9]

theorem pay10_at (x : FVec Ideal S1x20000x128 .f32) (w1 : FVec Ideal S128x32 .f32) (b1 : FVec Ideal S1x32 .f32)
    (w2 : FVec Ideal S32x64 .f32) (b2 : FVec Ideal S1x64 .f32) (wm : FVec Ideal S16x64 .f32) (bm : FVec Ideal S16x1 .f32)
    (l : Fin 16) (i : Fin 20000) :
    k0_pay10 (F := Ideal) x w1 b1 w2 b2 wm bm (ix3 0 l i) = k0_pay9 (F := Ideal) x w1 b1 w2 b2 wm bm (ix2 l i) := by
  pointwise [k0_pay10]

theorem pay12_at (x : FVec Ideal S1x20000x128 .f32) (w1 : FVec Ideal S128x32 .f32) (b1 : FVec Ideal S1x32 .f32)
    (w2 : FVec Ideal S32x64 .f32) (b2 : FVec Ideal S1x64 .f32) (wm : FVec Ideal S16x64 .f32) (bm : FVec Ideal S16x1 .f32)
    (l : Fin 16) (k : Fin 64) :
    k0_pay12 (F := Ideal) x w1 b1 w2 b2 wm bm (ix2 l k) = k0_pay9 (F := Ideal) x w1 b1 w2 b2 wm bm (ix2 l ⟨k.val, by omega⟩) := by
  pointwise [k0_pay12, k0_pay11]

theorem pay13_at (x : FVec Ideal S1x20000x128 .f32) (w1 : FVec Ideal S128x32 .f32) (b1 : FVec Ideal S1x32 .f32)
    (w2 : FVec Ideal S32x64 .f32) (b2 : FVec Ideal S1x64 .f32) (wm : FVec Ideal S16x64 .f32) (bm : FVec Ideal S16x1 .f32)
    (k : Fin 64) :
    k0_pay13 (F := Ideal) x w1 b1 w2 b2 wm bm (ix2 k 0) = ∑ l : Fin 16, k0_pay12 (F := Ideal) x w1 b1 w2 b2 wm bm (ix2 l k) * k0_pay12 (F := Ideal) x w1 b1 w2 b2 wm bm (ix2 l k) := by
  pointwise [k0_pay13, k0_pay12, k0_pay11]
  rw [Finset.sum_eq_single k]
  · rw [show IntOp.cmpi .eq (BitVec.ofNat 32 k.val) (BitVec.ofNat 32 k.val) = 1#1 by simp [IntOp.cmpi]]
    exact if_pos rfl
  · intro j _ hj
    rw [show IntOp.cmpi .eq (BitVec.ofNat 32 k.val) (BitVec.ofNat 32 j.val) = 0#1 from eq_words_ne k j hj]
    rfl
  · intro h; exact absurd (Finset.mem_univ _) h

theorem pay14_at (i : S16x64.Idx) : (k0_pay14 (F := Ideal)) i = (0 : EReal) := by
  pointwise [k0_pay14]

theorem pay15_at (i : S1x64.Idx) : (k0_pay15 (F := Ideal)) i = (0 : EReal) := by
  pointwise [k0_pay15]

/-- What marks a row's nearest centroids. -/
theorem pay16_at (z : FVec Ideal S16x20000 .f32) (c : FVec Ideal S16x64 .f32) (c2 : FVec Ideal S64x1 .f32) (k : Fin 64) (i : Fin 20000)
    (f : Fin 64 → EReal) (hf : ∀ k, f k = (∑ l : Fin 16, ((-2 : ℝ) : EReal) * c (ix2 l k) * z (ix2 l i)) + c2 (ix2 k 0)) :
    k0_pay16 (F := Ideal) z c c2 (ix2 k i) = BitVec.ofBool (decide (f k = Finset.univ.fold min ⊤ f)) := by
  pointwise [k0_pay16]
  rw [lit_top, lit_neg_two]
  simp only [hf]

/-- The block's labels: the least marked position. -/
theorem pay17_at (z : FVec Ideal S16x20000 .f32) (c : FVec Ideal S16x64 .f32) (c2 : FVec Ideal S64x1 .f32) (i : Fin 20000) (L : Fin 64)
    (h : ∀ k, k0_pay16 (F := Ideal) z c c2 (ix2 k i) = BitVec.ofBool (decide (k = L))) :
    k0_pay17 (F := Ideal) z c c2 (ix3 0 0 i) = ((L.val : ℝ) : EReal) := by
  pointwise [k0_pay17]
  simp only [h, lit_top, lit_sixtyfour, num_word, select_bool]
  rw [min_marked (fun k : Fin 64 => ((k.val : ℝ) : EReal))]
  exact_mod_cast L.isLt.le

/-- The clusters' sums, a block's rows added. -/
theorem pay19_at (z : FVec Ideal S16x20000 .f32) (c : FVec Ideal S16x64 .f32) (c2 : FVec Ideal S64x1 .f32) (s : FVec Ideal S16x64 .f32) (l : Fin 16) (k : Fin 64)
    (L : Fin 20000 → Fin 64) (h : ∀ i k, k0_pay16 (F := Ideal) z c c2 (ix2 k i) = BitVec.ofBool (decide (k = L i))) :
    k0_pay19 (F := Ideal) z c c2 s (ix2 l k) = s (ix2 l k) + ∑ i, if L i = k then (z (ix2 l i) : EReal) else 0 := by
  pointwise [k0_pay19, k0_pay18]
  simp only [h, num_bool]
  refine congrArg (HAdd.hAdd (s (ix2 l k) : EReal)) (Finset.sum_congr rfl fun i _ => ?_)
  by_cases e : k = L i
  · rw [if_pos e, if_pos e.symm, mul_one]
  · rw [if_neg e, if_neg (Ne.symm e), mul_zero]

/-- The clusters' sizes, a block's rows counted. -/
theorem pay20_at (z : FVec Ideal S16x20000 .f32) (c : FVec Ideal S16x64 .f32) (c2 : FVec Ideal S64x1 .f32) (s : FVec Ideal S1x64 .f32) (k : Fin 64)
    (L : Fin 20000 → Fin 64) (h : ∀ i k, k0_pay16 (F := Ideal) z c c2 (ix2 k i) = BitVec.ofBool (decide (k = L i))) :
    k0_pay20 (F := Ideal) z c c2 s (ix2 0 k) = s (ix2 0 k) + ∑ i, if L i = k then (1 : EReal) else 0 := by
  pointwise [k0_pay20, k0_pay18]
  simp only [h, num_bool]
  exact congrArg (HAdd.hAdd (s (ix2 0 k) : EReal)) (Finset.sum_congr rfl fun i _ => if_congr eq_comm rfl rfl)

/-- A center is its cluster's sum over its size, the size at least one. -/
theorem pay1_at (s : FVec Ideal S16x64 .f32) (n : FVec Ideal S1x64 .f32) (l : Fin 16) (k : Fin 64) :
    k0_pay1 (F := Ideal) s n (ix2 l k) = Ideal.div (s (ix2 l k)) (max (n (ix2 0 k)) 1) := by
  pointwise [k0_pay1]

/-- A row's mean squared difference to the center its label names. -/
theorem pay2_at (z : FVec Ideal S1x16x20000 .f32) (lb : FVec Ideal S1x1x20000 .f32) (c : FVec Ideal S16x64 .f32) (i : Fin 20000) (L : Fin 64)
    (h : lb (ix3 0 0 i) = ((L.val : ℝ) : EReal)) :
    k0_pay2 (F := Ideal) z lb c (ix2 0 i)
      = (∑ l : Fin 16, (z (ix3 0 l i) - c (ix2 l L)) * (z (ix3 0 l i) - c (ix2 l L))) * ((1 / 16 : ℝ) : EReal) := by
  pointwise [k0_pay2]
  have hn : ∀ k : Fin 64, (((k.val : ℝ) : EReal) = ((L.val : ℝ) : EReal)) ↔ k = L := fun k => by
    rw [EReal.coe_eq_coe_iff, Nat.cast_inj, Fin.val_inj]
  simp only [h, num_word, hn, num_bool, sum_marked (fun k => c (ix2 _ k)), lit_sixteenth]

theorem pay3_at (z : FVec Ideal S1x16x20000 .f32) (lb : FVec Ideal S1x1x20000 .f32) (c : FVec Ideal S16x64 .f32) (i : Fin 20000) :
    k0_pay3 (F := Ideal) z lb c (ix3 0 0 i) = k0_pay2 (F := Ideal) z lb c (ix2 0 i) := by
  pointwise [k0_pay3]
theorem pay4_at (z : FVec Ideal S1x16x20000 .f32) (lb : FVec Ideal S1x1x20000 .f32) (c : FVec Ideal S16x64 .f32) (i : Fin 20000) :
    k0_pay4 (F := Ideal) z lb c (ix2 0 i) = k0_pay2 (F := Ideal) z lb c (ix2 0 i) := by
  pointwise [k0_pay4]
theorem pay5_at (z : FVec Ideal S1x16x20000 .f32) (lb : FVec Ideal S1x1x20000 .f32) (c : FVec Ideal S16x64 .f32) (i : Fin 20000) :
    k0_pay5 (F := Ideal) z lb c (ix2 0 i) = k0_pay2 (F := Ideal) z lb c (ix2 0 i) := by
  pointwise [k0_pay5]
theorem pay6_at (z : FVec Ideal S1x16x20000 .f32) (lb : FVec Ideal S1x1x20000 .f32) (c : FVec Ideal S16x64 .f32) (v : FVec Ideal S1x20000 .f32) (i : Fin 20000) :
    k0_pay6 (F := Ideal) z lb c v (ix2 0 i) = min (v (ix2 0 i) : EReal) (k0_pay2 (F := Ideal) z lb c (ix2 0 i)) := by
  pointwise [k0_pay6]
theorem pay7_at (z : FVec Ideal S1x16x20000 .f32) (lb : FVec Ideal S1x1x20000 .f32) (c : FVec Ideal S16x64 .f32) (v : FVec Ideal S1x20000 .f32) (i : Fin 20000) :
    k0_pay7 (F := Ideal) z lb c v (ix2 0 i) = max (v (ix2 0 i) : EReal) (k0_pay2 (F := Ideal) z lb c (ix2 0 i)) := by
  pointwise [k0_pay7]

/-- The score. -/
theorem pay8_at (mn mx : FVec Ideal S1x20000 .f32) (d lb : FVec Ideal S1x1x20000 .f32) (i : Fin 20000) :
    k0_pay8 (F := Ideal) mn mx d lb (ix3 0 0 i)
      = Ideal.div (d (ix3 0 0 i) - Finset.univ.fold min ⊤ (fun j : Fin 20000 => (mn (ix2 0 j) : EReal)))
          (Finset.univ.fold max ⊥ (fun j : Fin 20000 => (mx (ix2 0 j) : EReal)) - Finset.univ.fold min ⊤ (fun j : Fin 20000 => (mn (ix2 0 j) : EReal)))
        + lb (ix3 0 0 i) := by
  pointwise [k0_pay8]
  rw [lit_top, lit_bot]

end Cert.Val

end
-- ==== Proof.Val.KerIn.lean ====
/- The kernel's blocks read back to the arguments. -/
module

public import proofs.«01_k».proof.Proof.KI.Value
public import proofs.«01_k».proof.Proof.Val.Lat
public import proofs.«01_k».proof.Proof.Val.KerAt

@[expose] public section

set_option maxRecDepth 16384

noncomputable section

namespace Cert.Val

open Idealize.ShloMosaic Idealize.ShloMosaic.TcCoe Cert.KernelIdeal Cert.KernelIdeal.Gen Cert.KernelIdeal.Hand

variable (m : (ℓ : Loc nD τ sig) → Buf (Elt Ideal) ℓ) (c : Dev nD)

/-! Where each window's block lies. -/
theorem idx0 (b : Fin 5) : win0_0.index (pt b.val) 0 = 0 ∧ win0_0.index (pt b.val) 1 = b.val ∧ win0_0.index (pt b.val) 2 = 0 := by
  revert b; decide +kernel
theorem idx1 : win0_1.index t0_0 0 = 0 ∧ win0_1.index t0_0 1 = 0 := by decide +kernel
theorem idx2 : win0_2.index t0_0 0 = 0 ∧ win0_2.index t0_0 1 = 0 := by decide +kernel
theorem idx3 : win0_3.index t0_0 0 = 0 ∧ win0_3.index t0_0 1 = 0 := by decide +kernel
theorem idx4 : win0_4.index t0_0 0 = 0 ∧ win0_4.index t0_0 1 = 0 := by decide +kernel
theorem idx5 : win0_5.index t0_0 0 = 0 ∧ win0_5.index t0_0 1 = 0 := by decide +kernel
theorem idx6 : win0_6.index t0_0 0 = 0 ∧ win0_6.index t0_0 1 = 0 := by decide +kernel

/-! What the host lines before the kernel leave. -/
theorem V_v0 : (V m c main_v0 : FVec Ideal S128x32 .f32)
    = transpose S128x32 [1, 0] (m ((c.tc : Thread nD τ).loc main_arg1) : FVec Ideal S32x128 .f32) Facts₀.transposes_S32x128_S128x32_1_0 := by
  unfold V V0
  after_reads_simp

theorem V_v1 : (V m c main_v1 : FVec Ideal S1x32 .f32)
    = shapeCast S1x32 (m ((c.tc : Thread nD τ).loc main_arg2) : FVec Ideal S32 .f32) Facts₀.shapeCasts_S32_S1x32 := by
  unfold V V0
  after_reads_simp
  rfl

theorem V_v2 : (V m c main_v2 : FVec Ideal S32x64 .f32)
    = transpose S32x64 [1, 0] (m ((c.tc : Thread nD τ).loc main_arg3) : FVec Ideal S64x32 .f32) Facts₀.transposes_S64x32_S32x64_1_0 := by
  unfold V V0
  after_reads_simp

theorem V_v3 : (V m c main_v3 : FVec Ideal S1x64 .f32)
    = shapeCast S1x64 (m ((c.tc : Thread nD τ).loc main_arg4) : FVec Ideal S64 .f32) Facts₀.shapeCasts_S64_S1x64 := by
  unfold V V0
  after_reads_simp
  rfl

theorem V_v4 : (V m c main_v4 : FVec Ideal S16x1 .f32)
    = shapeCast S16x1 (m ((c.tc : Thread nD τ).loc main_arg6) : FVec Ideal S16 .f32) Facts₀.shapeCasts_S16_S16x1 := by
  unfold V V0
  after_reads_simp
  rfl

/-! The blocks at their places. -/
theorem in_x (b : Fin 5) (i : Fin 20000) (e : Fin 128) :
    (inp m c).x b.val (ix3 0 i e) = m ((c.tc : Thread nD τ).loc main_arg0) (ix3 0 (row b i) e) := by
  show iblk m c 0 (pt b.val) (ix3 0 i e) = _
  have h : (row b i).val = 20000 * b.val + i.val := rfl
  blk_ext [iblk, V, idx0 b]
  all_goals omega

theorem in_w1 (e : Fin 128) (j : Fin 32) :
    (inp m c).w1 (ix2 e j) = m ((c.tc : Thread nD τ).loc main_arg1) (ix2 j e) := by
  have h : iblk m c 1 t0_0 (ix2 e j) = V m c main_v0 (ix2 e j) := by
    blk_ext [iblk, idx1]
  refine h.trans ?_
  rw [V_v0]
  pointwise []

theorem in_b1 (j : Fin 32) : (inp m c).b1 (ix2 0 j) = m ((c.tc : Thread nD τ).loc main_arg2) (ix1 j) := by
  have h : iblk m c 2 t0_0 (ix2 0 j) = V m c main_v1 (ix2 0 j) := by
    blk_ext [iblk, idx2]
  refine h.trans ?_
  rw [V_v1]
  pointwise []

theorem in_w2 (j : Fin 32) (k : Fin 64) : (inp m c).w2 (ix2 j k) = m ((c.tc : Thread nD τ).loc main_arg3) (ix2 k j) := by
  have h : iblk m c 3 t0_0 (ix2 j k) = V m c main_v2 (ix2 j k) := by
    blk_ext [iblk, idx3]
  refine h.trans ?_
  rw [V_v2]
  pointwise []

theorem in_b2 (k : Fin 64) : (inp m c).b2 (ix2 0 k) = m ((c.tc : Thread nD τ).loc main_arg4) (ix1 k) := by
  have h : iblk m c 4 t0_0 (ix2 0 k) = V m c main_v3 (ix2 0 k) := by
    blk_ext [iblk, idx4]
  refine h.trans ?_
  rw [V_v3]
  pointwise []

theorem in_bm (l : Fin 16) : (inp m c).bm (ix2 l 0) = m ((c.tc : Thread nD τ).loc main_arg6) (ix1 l) := by
  have h : iblk m c 6 t0_0 (ix2 l 0) = V m c main_v4 (ix2 l 0) := by
    blk_ext [iblk, idx6]
  refine h.trans ?_
  rw [V_v4]
  pointwise []

theorem in_wm (l : Fin 16) (k : Fin 64) :
    (inp m c).wm (ix2 l k) = m ((c.tc : Thread nD τ).loc main_arg5) (ix2 l k) := by
  show iblk m c 5 t0_0 (ix2 l k) = _
  blk_ext [iblk, V, idx5]

/-- Row `r`'s latents, of the kernel's arguments. -/
def lat (r : Fin 100000) (l : Fin 16) : EReal :=
  latent (fun e => m ((c.tc : Thread nD τ).loc main_arg0) (ix3 0 r e)) (fun j e => m ((c.tc : Thread nD τ).loc main_arg1) (ix2 j e))
    (fun j => m ((c.tc : Thread nD τ).loc main_arg2) (ix1 j)) (fun k j => m ((c.tc : Thread nD τ).loc main_arg3) (ix2 k j))
    (fun k => m ((c.tc : Thread nD τ).loc main_arg4) (ix1 k)) (fun k => m ((c.tc : Thread nD τ).loc main_arg5) (ix2 l k))
    (m ((c.tc : Thread nD τ).loc main_arg6) (ix1 l))

/-- A block's latents are its rows'. -/
theorem zt_at (b : Fin 5) (l : Fin 16) (i : Fin 20000) : zt (inp m c) b.val (ix2 l i) = lat m c (row b i) l := by
  unfold zt
  refine (pay9_at _ _ _ _ _ _ _ l i).trans ?_
  simp only [in_x, in_w1, in_b1, in_w2, in_b2, in_wm, in_bm]
  unfold lat latent
  refine congrArg (HAdd.hAdd · _) (Finset.sum_congr rfl fun k _ => mul_comm _ _)

theorem zb_at (b : Fin 5) (l : Fin 16) (i : Fin 20000) : zb (inp m c) b.val (ix3 0 l i) = lat m c (row b i) l :=
  (pay10_at _ _ _ _ _ _ _ l i).trans (zt_at m c b l i)

/-- The initial centroids are the first rows' latents. -/
theorem ic_at (l : Fin 16) (k : Fin 64) : ic (inp m c) (ix2 l k) = lat m c (first k) l :=
  (pay12_at _ _ _ _ _ _ _ l k).trans ((zt_at m c 0 l ⟨k.val, by omega⟩).trans
    (congrArg (lat m c · l) (Fin.ext (by show 20000 * 0 + k.val = k.val; omega))))

theorem ic2_at (k : Fin 64) : ic2 (inp m c) (ix2 k 0) = sq (lat m c) (first k) := by
  refine (pay13_at _ _ _ _ _ _ _ k).trans ?_
  unfold sq
  refine Finset.sum_congr rfl fun l _ => ?_
  exact congrArg₂ (HMul.hMul (α := EReal)) (ic_at m c l k) (ic_at m c l k)

end Cert.Val

end
-- ==== Proof.Val.Ker.lean ====
/- The kernel's result: every row's score, where one centroid is nearest. -/
module

public import proofs.«01_k».proof.Proof.Val.KerIn

@[expose] public section

set_option maxRecDepth 16384

noncomputable section

namespace Cert.Val

open Idealize.ShloMosaic Idealize.ShloMosaic.TcCoe Cert.KernelIdeal Cert.KernelIdeal.Gen Cert.KernelIdeal.Hand

variable {m : (ℓ : Loc nD τ sig) → Buf (Elt Ideal) ℓ} {c : Dev nD} {L : Fin 100000 → Fin 64}

/-- What marks the nearest centroids marks the label alone. -/
theorem mark_at (hZ : OneNearest (lat m c)) (hL : ∀ r k, dst (lat m c) r k = Finset.univ.fold min ⊤ (dst (lat m c) r) ↔ k = L r)
    (b : Fin 5) (i : Fin 20000) (k : Fin 64) :
    k0_pay16 (zt (inp m c) b.val) (ic (inp m c)) (ic2 (inp m c)) (ix2 k i) = BitVec.ofBool (decide (k = L (row b i))) := by
  refine (pay16_at _ _ _ k i (rank (lat m c) (row b i)) fun k => ?_).trans ?_
  · rw [ic2_at]
    simp only [ic_at, zt_at]
    rfl
  · simp only [(rank_min hZ (row b i) k).trans (hL (row b i) k)]

/-- A block's labels. -/
theorem lb_at (hZ : OneNearest (lat m c)) (hL : ∀ r k, dst (lat m c) r k = Finset.univ.fold min ⊤ (dst (lat m c) r) ↔ k = L r)
    (b : Fin 5) (i : Fin 20000) : lb (inp m c) b.val (ix3 0 0 i) = (((L (row b i)).val : ℝ) : EReal) :=
  pay17_at _ _ _ i (L (row b i)) fun k => mark_at hZ hL b i k

/-- The sums and the sizes, a block at a time. -/
theorem sums_step (hZ : OneNearest (lat m c)) (hL : ∀ r k, dst (lat m c) r k = Finset.univ.fold min ⊤ (dst (lat m c) r) ↔ k = L r)
    (b : Fin 5) (l : Fin 16) (k : Fin 64) :
    (sumsTo (inp m c) (b.val + 1) (ix2 l k) : EReal)
      = sumsTo (inp m c) b.val (ix2 l k) + ∑ i : Fin 20000, if L (row b i) = k then lat m c (row b i) l else 0 := by
  refine (pay19_at _ _ _ _ l k (fun i => L (row b i)) fun i k => mark_at hZ hL b i k).trans ?_
  simp only [zt_at]

theorem cnt_step (hZ : OneNearest (lat m c)) (hL : ∀ r k, dst (lat m c) r k = Finset.univ.fold min ⊤ (dst (lat m c) r) ↔ k = L r)
    (b : Fin 5) (k : Fin 64) :
    (cntTo (inp m c) (b.val + 1) (ix2 0 k) : EReal)
      = cntTo (inp m c) b.val (ix2 0 k) + ∑ i : Fin 20000, if L (row b i) = k then (1 : EReal) else 0 :=
  pay20_at _ _ _ _ k (fun i => L (row b i)) fun i k => mark_at hZ hL b i k

/-- Five steps from zero are a sum over all rows. -/
theorem five_steps (s : ℕ → EReal) (f : Fin 100000 → EReal) (h0 : s 0 = 0)
    (h : ∀ b : Fin 5, s (b.val + 1) = s b.val + ∑ i : Fin 20000, f (row b i)) : s 5 = ∑ r, f r := by
  have h1 : s 1 = s 0 + _ := h 0
  have h2 : s 2 = s 1 + _ := h 1
  have h3 : s 3 = s 2 + _ := h 2
  have h4 : s 4 = s 3 + _ := h 3
  have h5 : s 5 = s 4 + _ := h 4
  rw [sum_rows, Fin.sum_univ_five, h5, h4, h3, h2, h1, h0, zero_add]

/-- The centers. -/
theorem centF_at (hZ : OneNearest (lat m c)) (hL : ∀ r k, dst (lat m c) r k = Finset.univ.fold min ⊤ (dst (lat m c) r) ↔ k = L r)
    (l : Fin 16) (k : Fin 64) : centF (inp m c) (ix2 l k) = cen (lat m c) L k l := by
  refine (pay1_at _ _ l k).trans ?_
  unfold cen
  rw [five_steps (fun n => sumsTo (inp m c) n (ix2 l k)) (fun r => if L r = k then lat m c r l else 0) (pay14_at _) (fun b => sums_step hZ hL b l k),
    five_steps (fun n => cntTo (inp m c) n (ix2 0 k)) (fun r => if L r = k then (1 : EReal) else 0) (pay15_at _) (fun b => cnt_step hZ hL b k)]

/-- A block's distances. -/
theorem dist_at (hZ : OneNearest (lat m c)) (hL : ∀ r k, dst (lat m c) r k = Finset.univ.fold min ⊤ (dst (lat m c) r) ↔ k = L r)
    (b : Fin 5) (i : Fin 20000) :
    k0_pay2 (zb (inp m c) b.val) (lb (inp m c) b.val) (centF (inp m c)) (ix2 0 i) = mse (lat m c) L (row b i) := by
  refine (pay2_at _ _ _ i (L (row b i)) (lb_at hZ hL b i)).trans ?_
  simp only [zb_at, centF_at hZ hL]
  rfl

/-- A lane's extremes are those of its rows. -/
theorem mn_at (hZ : OneNearest (lat m c)) (hL : ∀ r k, dst (lat m c) r k = Finset.univ.fold min ⊤ (dst (lat m c) r) ↔ k = L r)
    (i : Fin 20000) (x : EReal) : x ≤ mnTo (inp m c) 4 (ix2 0 i) ↔ ∀ b : Fin 5, x ≤ mse (lat m c) L (row b i) := by
  have h0 : mnTo (inp m c) 0 (ix2 0 i) = mse (lat m c) L (row 0 i) := (pay4_at _ _ _ i).trans (dist_at hZ hL 0 i)
  have hs : ∀ n (hn : n + 1 < 5), mnTo (inp m c) (n + 1) (ix2 0 i) = min (mnTo (inp m c) n (ix2 0 i) : EReal) (mse (lat m c) L (row ⟨n + 1, hn⟩ i)) :=
    fun n hn => (pay6_at _ _ _ _ i).trans (congrArg (min (mnTo (inp m c) n (ix2 0 i) : EReal)) (dist_at hZ hL ⟨n + 1, hn⟩ i))
  rw [hs 3 (by norm_num), hs 2 (by norm_num), hs 1 (by norm_num), hs 0 (by norm_num), h0]
  simp only [le_min_iff]
  constructor
  · rintro ⟨⟨⟨⟨h0, h1⟩, h2⟩, h3⟩, h4⟩ b
    match b with
    | 0 => exact h0
    | 1 => exact h1
    | 2 => exact h2
    | 3 => exact h3
    | 4 => exact h4
  · intro h
    exact ⟨⟨⟨⟨h 0, h 1⟩, h 2⟩, h 3⟩, h 4⟩

theorem mx_at (hZ : OneNearest (lat m c)) (hL : ∀ r k, dst (lat m c) r k = Finset.univ.fold min ⊤ (dst (lat m c) r) ↔ k = L r)
    (i : Fin 20000) (x : EReal) : mxTo (inp m c) 4 (ix2 0 i) ≤ x ↔ ∀ b : Fin 5, mse (lat m c) L (row b i) ≤ x := by
  have h0 : mxTo (inp m c) 0 (ix2 0 i) = mse (lat m c) L (row 0 i) := (pay5_at _ _ _ i).trans (dist_at hZ hL 0 i)
  have hs : ∀ n (hn : n + 1 < 5), mxTo (inp m c) (n + 1) (ix2 0 i) = max (mxTo (inp m c) n (ix2 0 i) : EReal) (mse (lat m c) L (row ⟨n + 1, hn⟩ i)) :=
    fun n hn => (pay7_at _ _ _ _ i).trans (congrArg (max (mxTo (inp m c) n (ix2 0 i) : EReal)) (dist_at hZ hL ⟨n + 1, hn⟩ i))
  rw [hs 3 (by norm_num), hs 2 (by norm_num), hs 1 (by norm_num), hs 0 (by norm_num), h0]
  simp only [max_le_iff]
  constructor
  · rintro ⟨⟨⟨⟨h0, h1⟩, h2⟩, h3⟩, h4⟩ b
    match b with
    | 0 => exact h0
    | 1 => exact h1
    | 2 => exact h2
    | 3 => exact h3
    | 4 => exact h4
  · intro h
    exact ⟨⟨⟨⟨h 0, h 1⟩, h 2⟩, h 3⟩, h 4⟩

/-- The scores, as the kernel lays them out. -/
theorem outF_at (hZ : OneNearest (lat m c)) (hL : ∀ r k, dst (lat m c) r k = Finset.univ.fold min ⊤ (dst (lat m c) r) ↔ k = L r)
    (b : Fin 5) (i : Fin 20000) : outF (inp m c) (ix3 b 0 i) = score (lat m c) L (row b i) := by
  have hl : loc (ix3 b 0 i) = ix3 0 0 i := by
    funext a
    match a with
    | ⟨0, _⟩ => exact Subsingleton.elim (α := Fin 1) _ _
    | ⟨1, _⟩ => rfl
    | ⟨2, _⟩ => rfl
  show k0_pay8 (mnTo (inp m c) 4) (mxTo (inp m c) 4) (ds (inp m c) b.val) (lb (inp m c) b.val) (loc (ix3 b 0 i)) = _
  rw [hl]
  refine (pay8_at _ _ _ _ i).trans ?_
  have hd : ds (inp m c) b.val (ix3 0 0 i) = mse (lat m c) L (row b i) := (pay3_at _ _ _ i).trans (dist_at hZ hL b i)
  rw [hd, lb_at hZ hL b i, min_rows (mse (lat m c) L) _ fun i x => mn_at hZ hL i x, max_rows (mse (lat m c) L) _ fun i x => mx_at hZ hL i x]
  rfl

/-- The kernel's result at row `r`. -/
theorem ker_at (hZ : OneNearest (lat m c)) (hL : ∀ r k, dst (lat m c) r k = Finset.univ.fold min ⊤ (dst (lat m c) r) ↔ k = L r)
    (r : Fin 100000) :
    shapeCast S100000 (outF (inp m c) : FVec Ideal S5x1x20000 .f32) Facts₀.shapeCasts_S5x1x20000_S100000 (ix1 r) = score (lat m c) L r := by
  obtain ⟨b, i, rfl⟩ := row_surj r
  refine Eq.trans ?_ (outF_at hZ hL b i)
  generalize (outF (inp m c) : FVec Ideal S5x1x20000 .f32) = o
  pointwise []
  refine congrArg o (congrArg₂ (fun b i => ix3 b 0 i) (Fin.ext ?_) (Fin.ext ?_))
  · show (20000 * b.val + i.val) / 20000 = b.val
    omega
  · show (20000 * b.val + i.val) % 20000 = i.val
    omega

end Cert.Val

end
-- ==== Proof.Val.RefAt.lean ====
/- The reference's functions of arrays, read at an index. -/
module

public import proofs.«01_k».proof.Proof.Val.RefDefs
public import proofs.«01_k».proof.Proof.Val.Spec
public import Idealize.ShloMosaic.Lib.Routing.Ops

@[expose] public section

set_option maxRecDepth 16384

noncomputable section

namespace Cert.Val

open Idealize.ShloMosaic Cert.ReferenceIdeal Cert.ReferenceIdeal.Hand Facts₀ Facts
variable [Facts]

/-- The latents as a matrix are the latents. -/
theorem refZ2_at (z : FVec Ideal S1x100000x16 .f32) (r : Fin 100000) (l : Fin 16) :
    refZ2 z (ix2 r l) = z (ix3 0 r l) := by
  pointwise [refZ2]

/-- The squared distances. -/
theorem refD_at (z : FVec Ideal S100000x16 .f32) (r : Fin 100000) (k : Fin 64) :
    refD z (ix2 r k) = dst (fun r l => z (ix2 r l)) r k := by
  pointwise [refD, refC]
  rw [lit_two]
  rfl

/-- A center is its cluster's sum over its size, the size at least one. -/
theorem refCent_at (z : FVec Ideal S100000x16 .f32) (lab : IVec S100000 32) (k : Fin 64) (l : Fin 16) :
    refCent z lab (ix2 k l) = Ideal.div (refSum z lab (ix2 k l)) (max (refCnt lab (ix1 k)) 1) := by
  pointwise [refCent]

/-- A label is not negative: it is its own index. -/
theorem refIdx_at (lab : IVec S100000 32) (r : Fin 100000) (k : Fin 64) (h : lab (ix1 r) = BitVec.ofNat 32 k.val) :
    refIdx lab (ix2 r 0) = BitVec.ofNat 32 k.val := by
  pointwise [refIdx]
  rw [h]
  clear h
  revert k
  decide

/-- And lies in the table. -/
theorem refIn_at (ix : IVec S100000x1 32) (r : Fin 100000) (k : Fin 64) (h : ix (ix2 r 0) = BitVec.ofNat 32 k.val) :
    refIn ix (ix1 r) = 1#1 := by
  pointwise [refIn]
  rw [Finset.univ_unique, Finset.fold_singleton]
  show IntOp.andi (IntOp.andi (IntOp.cmpi .sge (ix (ix2 r 0)) 0#32) (IntOp.cmpi .sle (ix (ix2 r 0)) 63#32)) 1#1 = 1#1
  rw [h]
  clear h
  revert k
  decide

/-- The row of the table taken at a label. -/
theorem refTake_at (cent : FVec Ideal S64x16 .f32) (lab : IVec S100000 32) (r : Fin 100000) (l : Fin 16) (k : Fin 64)
    (h : lab (ix1 r) = BitVec.ofNat 32 k.val) : refTake cent lab (ix2 r l) = cent (ix2 k l) := by
  have hi := refIdx_at lab r k h
  pointwise [refTake]
  have hi' : refIdx lab (ValueIdx.ix2 r 0) = BitVec.ofNat 32 k.val := by rw [← ix2_eq_valueIdx]; exact hi
  have g := Routing.gather_row gather_S64x16_S100000x1_S100000x16_1_0_n_n_0_1_116 rfl rfl rfl rfl rfl cent (refIdx lab) r l k hi' (by norm_num)
  rw [← ix2_eq_valueIdx, ← ix2_eq_valueIdx] at g
  rw [refIn_at _ r k hi, g]
  exact if_pos rfl

/-- The distance to the row's center. -/
theorem refDist_at (z : FVec Ideal S1x100000x16 .f32) (cd : FVec Ideal S100000x16 .f32) (r : Fin 100000) :
    refDist z cd (ix2 0 r)
      = (∑ l : Fin 16, (z (ix3 0 r l) - cd (ix2 r l)) * (z (ix3 0 r l) - cd (ix2 r l))) * ((1 / 16 : ℝ) : EReal) := by
  pointwise [refDist]
  rw [lit_sixteen, Ideal.div_coe (by norm_num)]

theorem refMn_at (d : FVec Ideal S1x100000 .f32) :
    refMn d (ix2 0 0) = Finset.univ.fold min ⊤ (fun r : Fin 100000 => (d (ix2 0 r) : EReal)) := by
  pointwise [refMn]
  rw [lit_top]

theorem refMx_at (d : FVec Ideal S1x100000 .f32) :
    refMx d (ix2 0 0) = Finset.univ.fold max ⊥ (fun r : Fin 100000 => (d (ix2 0 r) : EReal)) := by
  pointwise [refMx]
  rw [lit_bot]

/-- The result's shape. -/
theorem cast_at (d : FVec Ideal S1x100000 .f32) (r : Fin 100000) :
    shapeCast S100000 d shapeCasts_S1x100000_S100000 (ix1 r) = d (ix2 0 r) := by
  pointwise []

/-- The scaled distance. -/
theorem scale_at (d : FVec Ideal S1x100000 .f32) (mn mx : FVec Ideal S1x1 .f32) (r : Fin 100000) :
    mulf (Host.divf (subf d (broadcastInDim S1x100000 ![0, 1] bcast_S1x1_S1x100000_0_1 mn))
        (broadcastInDim S1x100000 ![0, 1] bcast_S1x1_S1x100000_0_1 (subf mx mn)))
      (broadcastInDim S1x100000 ![] bcast_S_S1x100000 (constant (F := Ideal) S_ .f32 0x3F800000#32)) (ix2 0 r)
      = Ideal.div (d (ix2 0 r) - mn (ix2 0 0)) (mx (ix2 0 0) - mn (ix2 0 0)) := by
  pointwise []

/-- The label as a number. -/
theorem num_at (lab : IVec S100000 32) (r : Fin 100000) :
    (broadcastInDim S1x100000 ![1] bcast_S100000_S1x100000_1 (sitofp (F := Ideal) .f32 lab)) (ix2 0 r)
      = FloatOps.sitofp (F := Ideal) .f32 (lab (ix1 r)) := by
  pointwise []

/-- The score. -/
theorem refScore_at (d : FVec Ideal S1x100000 .f32) (lab : IVec S100000 32) (r : Fin 100000) :
    refScore d lab (ix1 r) = Ideal.div (d (ix2 0 r) - refMn d (ix2 0 0)) (refMx d (ix2 0 0) - refMn d (ix2 0 0))
      + FloatOps.sitofp (F := Ideal) .f32 (lab (ix1 r)) := by
  unfold refScore
  rw [cast_at, addf_apply, scale_at, num_at, Ideal.addf_def]

end Cert.Val

end
-- ==== Proof.Val.Label.lean ====
/- The reference's labels: the fold that looks for the least distance ends at the one nearest centroid. -/
module

public import proofs.«01_k».proof.Proof.Val.RefDefs

@[expose] public section

set_option maxRecDepth 16384

noncomputable section

namespace Cert.Val

open Idealize.ShloMosaic Cert.ReferenceIdeal Cert.ReferenceIdeal.Hand Facts₀ Facts

theorem one_or : ∀ x : BitVec 1, 1#1 ||| x = 1#1 := by decide

/-- A smaller value is kept. -/
theorem argmin_lt (a b : EReal × BitVec 32) (h : a.1 < b.1) :
    reducer_argmin_f32_i32 (F := Ideal) a b = a := by
  simp [reducer_argmin_f32_i32, Ideal.cmpf_def, Ideal.cmp, h, Scalar.select, IntOp.ori, one_or]

/-- A greater one is replaced. -/
theorem argmin_gt (a b : EReal × BitVec 32) (h : b.1 < a.1) :
    reducer_argmin_f32_i32 (F := Ideal) a b = b := by
  simp [reducer_argmin_f32_i32, Ideal.cmpf_def, Ideal.cmp, h.not_gt, h.ne', Scalar.select, IntOp.ori, IntOp.andi]

/-- The value itself met again changes nothing. -/
theorem argmin_self (a : EReal × BitVec 32) : reducer_argmin_f32_i32 (F := Ideal) a a = a := by
  simp [reducer_argmin_f32_i32, Ideal.cmpf_def, Ideal.cmp, Scalar.select, IntOp.ori, IntOp.andi, IntOp.cmpi]

/-- Two values above `x` leave one above `x`. -/
theorem argmin_above (a b : EReal × BitVec 32) (x : EReal) (ha : x < a.1) (hb : x < b.1) :
    x < (reducer_argmin_f32_i32 (F := Ideal) a b).1 := by
  rcases lt_trichotomy a.1 b.1 with h | h | h
  · rw [argmin_lt a b h]; exact ha
  · have e : (reducer_argmin_f32_i32 (F := Ideal) a b).1 = b.1 := by
      simp [reducer_argmin_f32_i32, Ideal.cmpf_def, Ideal.cmp, h, Scalar.select, IntOp.ori]
    rw [e]; exact hb
  · rw [argmin_gt a b h]; exact hb

/-- The fold over a list whose other values are all above `p`'s ends at `p`, once `p` was met. -/
theorem argmin_fold (p : EReal × BitVec 32) (l : List (EReal × BitVec 32)) (acc : EReal × BitVec 32)
    (hl : ∀ q ∈ l, q = p ∨ p.1 < q.1) (ha : acc = p ∨ p.1 < acc.1 ∧ p ∈ l) :
    l.foldl (reducer_argmin_f32_i32 (F := Ideal)) acc = p := by
  induction l generalizing acc with
  | nil =>
    rcases ha with rfl | ⟨_, h⟩
    · rfl
    · cases h
  | cons q l ih =>
    rw [List.foldl_cons]
    refine ih _ (fun q' h => hl q' (List.mem_cons_of_mem _ h)) ?_
    rcases ha with rfl | ⟨h, hm⟩
    · rcases hl q List.mem_cons_self with rfl | hq
      · exact Or.inl (argmin_self _)
      · exact Or.inl (argmin_lt _ _ hq)
    · rcases hl q List.mem_cons_self with rfl | hq
      · exact Or.inl (argmin_gt _ _ h)
      · refine Or.inr ⟨argmin_above _ _ _ h hq, ?_⟩
        rcases List.mem_cons.1 hm with rfl | hm
        · exact absurd hq (lt_irrefl _)
        · exact hm

variable [Facts]

theorem drop_row (r : Fin 100000) (k : Fin 64) :
    (reducesTo_S100000x64_S100000_d1 : S100000x64.ReducesTo [1] S100000).drop (ix2 r k) = ix1 r := by
  funext b
  match b with
  | ⟨0, _⟩ => rfl

/-- What the fold at `j` runs over: the pairs at the places that reduce to `j`. -/
theorem mem_fiber {s t : Shape} {axes : List (Fin s.rank)} {α β : Type} (x : s.Idx → α) (y : s.Idx → β)
    (h : s.ReducesTo axes t) (j : t.Idx) (q : α × β) :
    q ∈ Host.argReduceFiber x y h j ↔ ∃ i, h.drop i = j ∧ q = (x i, y i) := by
  unfold Host.argReduceFiber
  rw [List.mem_map]
  constructor
  · rintro ⟨n, hn, rfl⟩
    exact ⟨_, of_decide_eq_true (List.mem_filter.1 hn).2, rfl⟩
  · rintro ⟨i, hi, rfl⟩
    refine ⟨s.rowMajor i, List.mem_filter.2 ⟨List.mem_finRange _, ?_⟩, ?_⟩
    · rw [Equiv.symm_apply_apply]; exact decide_eq_true hi
    · rw [Equiv.symm_apply_apply]

/-- The fold at `j` ends at the pair of place `i`, where every other place's value is above its. -/
theorem argmin_at {s t u : Shape} {axes : List (Fin s.rank)} (x : FVec Ideal s .f32) (y : IVec s 32) (ix : FVec Ideal u .f32)
    (iy : IVec u 32) (h : s.ReducesTo axes t) (hu : 0 < u.numel) (j : t.Idx) (i : s.Idx) (hi : h.drop i = j)
    (hx : ∀ i', h.drop i' = j → i' ≠ i → (x i : EReal) < x i') (ht : (x i : EReal) < ix (Shape.Idx.first hu)) :
    Host.argReduce (reducer_argmin_f32_i32 (F := Ideal)) x y ix iy h hu j = (x i, y i) := by
  rw [Ideal.argReduce_eq_reduce2, Host.reduce2_eq_foldl_fiber]
  refine argmin_fold (x i, y i) _ _ (fun q hq => ?_) (Or.inr ⟨ht, (mem_fiber _ _ _ _ _).2 ⟨i, hi, rfl⟩⟩)
  obtain ⟨i', hi', rfl⟩ := (mem_fiber _ _ _ _ _).1 hq
  by_cases e : i' = i
  · left; rw [e]
  · right; exact hx i' hi' e

/-- The second halves of a family of pairs, at a place where the pair is known. -/
theorem snd_at {ι α β : Type} (f : ι → α × β) (i : ι) (p : α × β) (h : f i = p) : (fun j => (f j).2) i = p.2 := congrArg Prod.snd h

/-- The labels are the second halves of what the fold finds. -/
theorem refL_eq (d : FVec Ideal S100000x64 .f32) :
    refL d = fun j => Prod.snd (Host.argReduce reducer_argmin_f32_i32 d (iotaInDim S100000x64 32 1)
      (constant (F := Ideal) S_ .f32 0x7F800000#32) (constantI S_ 32 0#32) reducesTo_S100000x64_S100000_d1 h_S_ j) := by
  delta refL
  rfl

/-- A row's label, where one centroid is nearest. -/
theorem refL_at (d : FVec Ideal S100000x64 .f32) (r : Fin 100000) (k : Fin 64)
    (h : ∀ j, j ≠ k → (d (ix2 r k) : EReal) < d (ix2 r j)) (ht : d (ix2 r k) < (⊤ : EReal)) :
    refL d (ix1 r) = BitVec.ofNat 32 k.val := by
  have hx : ∀ i', (reducesTo_S100000x64_S100000_d1 : S100000x64.ReducesTo [1] S100000).drop i' = ix1 r → i' ≠ ix2 r k →
      (d (ix2 r k) : EReal) < d i' := fun i' hi' ne => by
    obtain ⟨r', j, rfl⟩ : ∃ (r' : Fin 100000) (j : Fin 64), i' = ix2 r' j := ⟨_, _, eq_ix2 _⟩
    rw [drop_row] at hi'
    obtain rfl : r' = r := congrFun hi' 0
    exact h j fun e => ne (by rw [e])
  have h0 : (constant (F := Ideal) S_ .f32 0x7F800000#32 : FVec Ideal S_ .f32) (Shape.Idx.first h_S_) = (⊤ : EReal) := by
    rw [constant_apply]
    simp [Ideal.ofBits, Ideal.ieee]
  have e := argmin_at d (iotaInDim S100000x64 32 1) (constant (F := Ideal) S_ .f32 0x7F800000#32) (constantI S_ 32 0#32)
    reducesTo_S100000x64_S100000_d1 h_S_ (ix1 r) (ix2 r k) (drop_row r k) hx (by rw [h0]; exact ht)
  have e' := snd_at _ (ix1 r) _ e
  rw [refL_eq, e']
  rfl

end Cert.Val

end
-- ==== Proof.Val.Scatter.lean ====
/- The reference's two segment sums: where each update lands, and the sum that each cluster gets. -/
module

public import proofs.«01_k».proof.Proof.Val.RefDefs

@[expose] public section

set_option maxRecDepth 16384

noncomputable section

namespace Cert.Val

open Idealize.ShloMosaic Cert.ReferenceIdeal Cert.ReferenceIdeal.Hand Facts₀ Facts

variable [Facts]

/-- An update row's window starts at its label, and spans the whole row. -/
theorem rows_start (idx : IVec S100000x1 32) (r : Fin 100000) (l : Fin 16) :
    scatter_S64x16_S100000x1_S100000x16_1_0_0_1.start (ix2 r l) idx 0 = (idx (ix2 r 0)).toInt := by
  unfold ScatterDims.start
  rw [dif_pos (show (0 : Fin 2) ∈ scatter_S64x16_S100000x1_S100000x16_1_0_0_1.scatterDimsToOperandDims from List.mem_singleton.2 rfl)]
  congr 2
  funext b
  match b with
  | ⟨0, _⟩ => rfl
  | ⟨1, _⟩ => rfl

theorem rows_start1 (idx : IVec S100000x1 32) (r : Fin 100000) (l : Fin 16) :
    scatter_S64x16_S100000x1_S100000x16_1_0_0_1.start (ix2 r l) idx 1 = 0 := rfl
theorem rows_window (r : Fin 100000) (l : Fin 16) :
    scatter_S64x16_S100000x1_S100000x16_1_0_0_1.window (ix2 r l) 0 = 0 := rfl
theorem rows_window1 (r : Fin 100000) (l : Fin 16) :
    scatter_S64x16_S100000x1_S100000x16_1_0_0_1.window (ix2 r l) 1 = l.val := rfl

/-- A single update starts at its label. -/
theorem ones_start (idx : IVec S100000x1 32) (r : Fin 100000) :
    scatter_S64_S100000x1_S100000_n_0_0_1.start (ix1 r) idx 0 = (idx (ix2 r 0)).toInt := by
  unfold ScatterDims.start
  rw [dif_pos (show (0 : Fin 1) ∈ scatter_S64_S100000x1_S100000_n_0_0_1.scatterDimsToOperandDims from List.mem_singleton.2 rfl)]
  congr 2
  funext b
  match b with
  | ⟨0, _⟩ => rfl
  | ⟨1, _⟩ => rfl
theorem ones_window (r : Fin 100000) : scatter_S64_S100000x1_S100000_n_0_0_1.window (ix1 r) 0 = 0 := rfl

/-- Where an update lands, once its coordinates are known to lie inside. -/
theorem lands {s si u : Shape} (d : ScatterDims s si u) {w : ℕ} (j : u.Idx) (idx : IVec si w) (i : s.Idx)
    (h : ∀ a, d.start j idx a + d.window j a = ((i a).val : ℤ)) : d.resultIdx? j idx = some i := by
  unfold ScatterDims.resultIdx?
  rw [dif_pos (fun a => by rw [h a]; exact ⟨Int.natCast_nonneg _, Int.ofNat_lt.2 (i a).isLt⟩)]
  exact congrArg some (funext fun a => Fin.ext (by show (d.start j idx a + d.window j a).toNat = _; rw [h a]; rfl))

theorem rows_lands (idx : IVec S100000x1 32) (L : Fin 100000 → Fin 64) (h : ∀ r, (idx (ix2 r 0)).toInt = ((L r).val : ℤ))
    (r : Fin 100000) (l : Fin 16) :
    scatter_S64x16_S100000x1_S100000x16_1_0_0_1.resultIdx? (ix2 r l) idx = some (ix2 (L r) l) :=
  lands _ _ _ _ fun a => match a with
    | ⟨0, _⟩ => (congrArg₂ (fun (p : ℤ) (q : ℕ) => p + (q : ℤ)) (rows_start idx r l) (rows_window r l)).trans (by rw [h r]; simp)
    | ⟨1, _⟩ => (congrArg₂ (fun (p : ℤ) (q : ℕ) => p + (q : ℤ)) (rows_start1 idx r l) (rows_window1 r l)).trans (by simp)

theorem ones_lands (idx : IVec S100000x1 32) (L : Fin 100000 → Fin 64) (h : ∀ r, (idx (ix2 r 0)).toInt = ((L r).val : ℤ))
    (r : Fin 100000) :
    scatter_S64_S100000x1_S100000_n_0_0_1.resultIdx? (ix1 r) idx = some (ix1 (L r)) :=
  lands _ _ _ _ fun a => match a with
    | ⟨0, _⟩ => (congrArg₂ (fun (p : ℤ) (q : ℕ) => p + (q : ℤ)) (ones_start idx r) (ones_window r)).trans (by rw [h r]; simp)

/-- The label read as an index of the table. -/
theorem toInt_label : ∀ k : Fin 64, (BitVec.ofNat 32 k.val).toInt = (k.val : ℤ) := by decide

/-- The sum of each cluster's latents, over the rows whose label it is. -/
theorem refSum_at (z : FVec Ideal S100000x16 .f32) (lab : IVec S100000 32) (L : Fin 100000 → Fin 64)
    (h : ∀ r, lab (ix1 r) = BitVec.ofNat 32 (L r).val) (k : Fin 64) (l : Fin 16) :
    refSum z lab (ix2 k l) = ∑ r : Fin 100000, if L r = k then z (ix2 r l) else 0 := by
  have hl := rows_lands (broadcastInDim S100000x1 ![0] bcast_S100000_S100000x1_0 lab) L
    (fun r => by pointwise []; rw [h r]; exact toInt_label _)
  unfold refSum
  rw [Host.scatterAdd, Ideal.hostScatterAdd_def, Ideal.hostScatterAdd, ← Finset.sum_filter]
  have h0 : (broadcastInDim S64x16 ![] bcast_S_S64x16 (constant (F := Ideal) S_ .f32 0x00000000#32) : FVec Ideal S64x16 .f32) (ix2 k l) = (0 : EReal) := by
    pointwise []
  rw [h0, zero_add]
  symm
  refine Finset.sum_bij (fun r _ => ix2 r l) (fun r hr => ?_) (fun r _ r' _ e => congrFun e 0) (fun j hj => ?_) (fun r _ => rfl)
  · rw [Finset.mem_filter] at hr ⊢
    exact ⟨Finset.mem_univ _, by rw [hl, hr.2]⟩
  · rw [Finset.mem_filter] at hj
    obtain ⟨r, l', rfl⟩ : ∃ (r : Fin 100000) (l' : Fin 16), j = ix2 r l' := ⟨j 0, j 1, eq_ix2 j⟩
    have e3 := Option.some.inj ((hl r l').symm.trans hj.2)
    have e4 : L r = k := congrFun e3 0
    have e5 : l' = l := congrFun e3 1
    exact ⟨r, Finset.mem_filter.2 ⟨Finset.mem_univ _, e4⟩, by rw [e5]⟩

/-- The number of each cluster's rows. -/
theorem refCnt_at (lab : IVec S100000 32) (L : Fin 100000 → Fin 64)
    (h : ∀ r, lab (ix1 r) = BitVec.ofNat 32 (L r).val) (k : Fin 64) :
    refCnt lab (ix1 k) = ∑ r : Fin 100000, if L r = k then (1 : EReal) else 0 := by
  have hl := ones_lands (broadcastInDim S100000x1 ![0] bcast_S100000_S100000x1_0 lab) L
    (fun r => by pointwise []; rw [h r]; exact toInt_label _)
  unfold refCnt
  rw [Host.scatterAdd, Ideal.hostScatterAdd_def, Ideal.hostScatterAdd, ← Finset.sum_filter]
  have h0 : (broadcastInDim S64 ![] bcast_S_S64 (constant (F := Ideal) S_ .f32 0x00000000#32) : FVec Ideal S64 .f32) (ix1 k) = (0 : EReal) := by
    pointwise []
  have h1 : ∀ r : Fin 100000, (broadcastInDim S100000 ![] bcast_S_S100000 (constant (F := Ideal) S_ .f32 0x3F800000#32) : FVec Ideal S100000 .f32) (ix1 r) = (1 : EReal) := fun r => by
    pointwise []
  rw [h0, zero_add]
  symm
  refine Finset.sum_bij (fun r _ => ix1 r) (fun r hr => ?_) (fun r _ r' _ e => congrFun e 0) (fun j hj => ?_) (fun r _ => (h1 r).symm)
  · rw [Finset.mem_filter] at hr ⊢
    exact ⟨Finset.mem_univ _, by rw [hl, hr.2]⟩
  · rw [Finset.mem_filter] at hj
    obtain ⟨r, rfl⟩ : ∃ r : Fin 100000, j = ix1 r := ⟨j 0, eq_ix1 j⟩
    have e4 : L r = k := congrFun (Option.some.inj ((hl r).symm.trans hj.2)) 0
    exact ⟨r, Finset.mem_filter.2 ⟨Finset.mem_univ _, e4⟩, rfl⟩

end Cert.Val

end
-- ==== Proof.Val.Ref.lean ====
/- The reference's result: every row's score, where one centroid is nearest. -/
module

public import proofs.«01_k».proof.Proof.Val.RefAt
public import proofs.«01_k».proof.Proof.Val.Label
public import proofs.«01_k».proof.Proof.Val.Scatter
public import proofs.«01_k».proof.Proof.Val.KerAt
public import proofs.«01_k».proof.Proof.Val.Lat

@[expose] public section

set_option maxRecDepth 16384

noncomputable section

namespace Cert.Val

open Idealize.ShloMosaic Cert.ReferenceIdeal Cert.ReferenceIdeal.Hand

variable [Facts]

section
variable {z : FVec Ideal S1x100000x16 .f32} {Z : Fin 100000 → Fin 16 → EReal} {L : Fin 100000 → Fin 64}

/-- The labels. -/
theorem refLab_at (hz : ∀ r l, z (ix3 0 r l) = Z r l) (hZ : OneNearest Z)
    (hL : ∀ r k, dst Z r k = Finset.univ.fold min ⊤ (dst Z r) ↔ k = L r) (r : Fin 100000) :
    refLab z (ix1 r) = BitVec.ofNat 32 (L r).val := by
  have e : (fun (r : Fin 100000) (l : Fin 16) => (refZ2 z (ix2 r l) : EReal)) = Z :=
    funext fun r => funext fun l => (refZ2_at z r l).trans (hz r l)
  have hd : ∀ k, (refD (refZ2 z) (ix2 r k) : EReal) = dst Z r k := fun k => by rw [refD_at, e]
  unfold refLab
  refine refL_at _ r (L r) (fun j hj => ?_) ?_
  · rw [hd, hd]; exact label_lt hL r j hj
  · rw [hd]; exact dst_lt_top hZ r _

/-- The distances. -/
theorem refDs_at (hz : ∀ r l, z (ix3 0 r l) = Z r l) (hZ : OneNearest Z)
    (hL : ∀ r k, dst Z r k = Finset.univ.fold min ⊤ (dst Z r) ↔ k = L r) (r : Fin 100000) :
    refDs z (ix2 0 r) = mse Z L r := by
  have hl := refLab_at hz hZ hL
  have hc : ∀ l k, refCent (refZ2 z) (refLab z) (ix2 k l) = cen Z L k l := fun l k => by
    rw [refCent_at, refSum_at _ _ L hl, refCnt_at _ L hl]
    simp only [refZ2_at, hz]
    rfl
  unfold refDs
  rw [refDist_at]
  simp only [refTake_at _ _ r _ (L r) (hl r), hc, hz]
  rfl

/-- The scores. -/
theorem refScore_row (hz : ∀ r l, z (ix3 0 r l) = Z r l) (hZ : OneNearest Z)
    (hL : ∀ r k, dst Z r k = Finset.univ.fold min ⊤ (dst Z r) ↔ k = L r) (r : Fin 100000) :
    refScore (refDs z) (refLab z) (ix1 r) = score Z L r := by
  rw [refScore_at, refMn_at, refMx_at, refLab_at hz hZ hL r, num_word]
  simp only [refDs_at hz hZ hL]
  rfl

end

/-- The reference's result at row `r`. -/
theorem ref_at (x : FVec Ideal S1x100000x128 .f32) (w1 : FVec Ideal S32x128 .f32) (b1 : FVec Ideal S32 .f32)
    (w2 : FVec Ideal S64x32 .f32) (b2 : FVec Ideal S64 .f32) (wm : FVec Ideal S16x64 .f32) (bm : FVec Ideal S16 .f32)
    (Z : Fin 100000 → Fin 16 → EReal) (L : Fin 100000 → Fin 64)
    (e : Z = fun i l => latent (fun e => x (ix3 0 i e)) (fun j e => w1 (ix2 j e)) (fun j => b1 (ix1 j))
      (fun k j => w2 (ix2 k j)) (fun k => b2 (ix1 k)) (fun k => wm (ix2 l k)) (bm (ix1 l)))
    (hZ : OneNearest Z) (hL : ∀ r k, dst Z r k = Finset.univ.fold min ⊤ (dst Z r) ↔ k = L r) (r : Fin 100000) :
    refOut x w1 b1 w2 b2 wm bm (ix1 r) = score Z L r := by
  unfold refOut
  refine refScore_row (fun r l => ?_) hZ hL r
  rw [refZ_at]
  simp only [refH2_at, refH1_at]
  rw [e]
  rfl

end Cert.Val

end
-- ==== Proof.Val.Same.lean ====
/- The kernel's result and the reference's are one array, where one centroid is nearest. -/
module

public import proofs.«01_k».proof.Proof.Val.Ker
public import proofs.«01_k».proof.Proof.Val.Ref

@[expose] public section

set_option maxRecDepth 16384

noncomputable section

namespace Cert.Val

open Idealize.ShloMosaic Idealize.ShloMosaic.TcCoe Cert.KernelIdeal Cert.KernelIdeal.Gen Cert.KernelIdeal.Hand

/-- The two results of one set of arguments. -/
theorem same [Cert.ReferenceIdeal.Facts] (m : (ℓ : Loc nD τ sig) → Buf (Elt Ideal) ℓ) (c : Dev nD) (hZ : OneNearest (lat m c)) :
    Cert.ReferenceIdeal.Hand.refOut (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6))
    = shapeCast S100000 (outF (inp m c) : FVec Ideal S5x1x20000 .f32) Facts₀.shapeCasts_S5x1x20000_S100000 := by
  obtain ⟨L, hL⟩ := exists_label hZ
  funext j
  rw [eq_ix1 j, ker_at hZ hL (j 0)]
  exact ref_at _ _ _ _ _ _ _ (lat m c) L rfl hZ hL (j 0)

end Cert.Val

end
-- ==== Proof.lean ====
module

public import proofs.«01_k».proof.Defs
public import proofs.«01_k».proof.Proof.Gen.Pre_one_nearest_centroid
public import proofs.«01_k».proof.Proof.KI.Value
public import proofs.«01_k».proof.Proof.K.Frame
public import proofs.«01_k».proof.Proof.RI.Frame
public import proofs.«01_k».proof.Proof.RI.Run
public import proofs.«01_k».proof.Proof.Val.PreAt
public import proofs.«01_k».proof.Proof.Val.Same

@[expose] public section

set_option maxRecDepth 16384

noncomputable section

namespace Cert.Proof

open Idealize.ShloMosaic Idealize.SL.Sem

/-- The kernel's ideal result is the reference's wherever one centroid is nearest to every row. -/
theorem value : Cert.algebraic_KernelIdeal_ReferenceIdeal_pre_one_nearest_centroid (hKernelIdeal := Cert.KernelIdeal.Gen.facts)
    (hReferenceIdeal := Cert.ReferenceIdeal.Gen.facts) (hPre_one_nearest_centroid := Cert.Pre_one_nearest_centroid.Gen.facts) := by
  intro m g m' g' hpre hagree
  refine ⟨_, Cert.KernelIdeal.Hand.run m g, θ_run_mono (Cert.ReferenceIdeal.Hand.run m' g') fun r hr c => ⟨(hr c).1.trans ?_, (hr c).2⟩⟩
  obtain ⟨h0, h1, h2, h3, h4, h5, h6, _⟩ := hagree c
  rw [h0, h1, h2, h3, h4, h5, h6]
  have hZ := @Cert.Val.pre_nearest Cert.Pre_one_nearest_centroid.Gen.facts _ _ _ _ _ _ _ _ _ _ _ _ _ _ _ _ (hpre c)
  exact @Cert.Val.same Cert.ReferenceIdeal.Gen.facts m c hZ

theorem claim : Cert.Claim := ⟨Cert.Kernel.Gen.facts, Cert.KernelIdeal.Gen.facts, Cert.ReferenceIdeal.Gen.facts,
  Cert.Pre_one_nearest_centroid.Gen.facts,
  fun m ρ _ => Cert.Kernel.Hand.frame m ρ, fun m ρ _ => Cert.KernelIdeal.Hand.frame m ρ, fun m ρ _ => Cert.KernelIdeal.Hand.frame m ρ,
  Cert.ReferenceIdeal.Hand.frame, fun m ρ _ => Cert.ReferenceIdeal.Hand.frame m ρ trivial, trivial, value⟩

end Cert.Proof

end
